-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_distinct_so_far [hKernelIdeal : Cert.KernelIdeal.Facts] [hReferenceIdeal : Cert.ReferenceIdeal.Facts] [hOn_distinct_so_far : Cert.On_distinct_so_far.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_distinct_so_far.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_distinct_so_far.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_distinct_so_far : Cert.On_distinct_so_far.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_distinct_so_far (hKernelIdeal := hKernelIdeal) (hReferenceIdeal := hReferenceIdeal) (hOn_distinct_so_far := hOn_distinct_so_far)
-- ==== On_distinct_so_far.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩
abbrev S1024x31 : Shape := ⟨2, ![1024, 31]⟩
abbrev S31 : Shape := ⟨1, ![31]⟩
abbrev S1x31 : Shape := ⟨2, ![1, 31]⟩
abbrev S32 : Shape := ⟨1, ![32]⟩
abbrev S32x1 : Shape := ⟨2, ![32, 1]⟩
abbrev S32x31 : Shape := ⟨2, ![32, 31]⟩
abbrev S1024x1x31 : Shape := ⟨3, ![1024, 1, 31]⟩
abbrev S1x32x31 : Shape := ⟨3, ![1, 32, 31]⟩
abbrev S1024x32x31 : Shape := ⟨3, ![1024, 32, 31]⟩

class Facts : Prop where
  slices_S1024x16384_S1024x32_0_0 : S1024x16384.Slices ![0, 0] S1024x32
  bcast_S_S1024x32 : S_.BroadcastsInDim S1024x32 (![] : Fin 0 → Fin S1024x32.rank)
  shapeCasts_S1024x32_S1024x32x1 : S1024x32.ShapeCasts S1024x32x1
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  h_S_ : 0 < S_.numel
  slices_S1024x32_S1024x31_0_0 : S1024x32.Slices ![0, 0] S1024x31
  slices_S1024x32_S1024x31_0_1 : S1024x32.Slices ![0, 1] S1024x31
  bcast_S31_S1x31_1 : S31.BroadcastsInDim S1x31 (![1] : Fin 1 → Fin S1x31.rank)
  bcast_S32_S32x1_0 : S32.BroadcastsInDim S32x1 (![0] : Fin 1 → Fin S32x1.rank)
  bcast_S1x31_S32x31_0_1 : S1x31.BroadcastsInDim S32x31 (![0, 1] : Fin 2 → Fin S32x31.rank)
  bcast_S32x1_S32x31_0_1 : S32x1.BroadcastsInDim S32x31 (![0, 1] : Fin 2 → Fin S32x31.rank)
  bcast_S1024x31_S1024x1x31_0_2 : S1024x31.BroadcastsInDim S1024x1x31 (![0, 2] : Fin 2 → Fin S1024x1x31.rank)
  bcast_S32x31_S1x32x31_1_2 : S32x31.BroadcastsInDim S1x32x31 (![1, 2] : Fin 2 → Fin S1x32x31.rank)
  bcast_S1024x1x31_S1024x32x31_0_1_2 : S1024x1x31.BroadcastsInDim S1024x32x31 (![0, 1, 2] : Fin 3 → Fin S1024x32x31.rank)
  bcast_S1x32x31_S1024x32x31_0_1_2 : S1x32x31.BroadcastsInDim S1024x32x31 (![0, 1, 2] : Fin 3 → Fin S1024x32x31.rank)
  reducesTo_S1024x32x31_S1024x32_d2 : S1024x32x31.ReducesTo [2] S1024x32
  gather_S1024x16384_S1024x32x1_S1024x32_n_1_0_0_1_2_11_wf : GatherDims.WF S1024x16384 S1024x32x1 S1024x32 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x16384_S1024x32x1_S1024x32_n_1_0_0_1_2_11 : GatherDims S1024x16384 S1024x32x1 S1024x32 where
  offsetDims := []
  collapsedSliceDims := [1]
  operandBatchingDims := [0]
  startIndicesBatchingDims := [0]
  startIndexMap := [1]
  indexVectorDim := 2
  sliceSizes := ![1, 1]
  wf := gather_S1024x16384_S1024x32x1_S1024x32_n_1_0_0_1_2_11_wf

def fn_argsort {F : FTy → Type} [FloatOps F] (arg0 : FVec F S1024x16384 .f32) : IVec S1024x16384 32 :=
  let v0 : IVec S1024x16384 32 := iotaInDim S1024x16384 32 1
  let v1_0 : FVec F S1024x16384 .f32 := (fun x y => (Host.sort2 S1024x16384 1 comparator_f32_i32_d1 x y).1) arg0 v0
  let v1_1 : IVec S1024x16384 32 := (fun x y => (Host.sort2 S1024x16384 1 comparator_f32_i32_d1 x y).2) arg0 v0
  v1_1

def fn_take_along_axis {F : FTy → Type} [FloatOps F] (arg0 : FVec F S1024x16384 .f32) (arg1 : IVec S1024x32 32) : FVec F S1024x32 .f32 :=
  let c : IVec S_ 32 := constantI S_ 32 0#32
  let v0 : IVec S1024x32 32 := broadcastInDim S1024x32 ![] bcast_S_S1024x32 c
  let v1 : IVec S1024x32 1 := cmpi .slt arg1 v0
  let c_0 : IVec S_ 32 := constantI S_ 32 16384#32
  let v2 : IVec S1024x32 32 := broadcastInDim S1024x32 ![] bcast_S_S1024x32 c_0
  let v3 : IVec S1024x32 32 := addi arg1 v2
  let v4 : IVec S1024x32 32 := select v1 v3 arg1
  let v5 : IVec S1024x32x1 32 := shapeCast S1024x32x1 v4 shapeCasts_S1024x32_S1024x32x1
  let c_1 : IVec S1 32 := constantI S1 32 16383#32
  let c_2 : IVec S_ 32 := constantI S_ 32 0#32
  let v6 : IVec S1024x32x1 32 := broadcastInDim S1024x32x1 ![] bcast_S_S1024x32x1 c_2
  let v7 : IVec S1024x32x1 1 := cmpi .sge v5 v6
  let v8 : IVec S1x1x1 32 := broadcastInDim S1x1x1 ![2] bcast_S1_S1x1x1_2 c_1
  let v9 : IVec S1024x32x1 32 := broadcastInDim S1024x32x1 ![0, 1, 2] bcast_S1x1x1_S1024x32x1_0_1_2 v8
  let v10 : IVec S1024x32x1 1 := cmpi .sle v5 v9
  let v11 : IVec S1024x32x1 1 := andi v7 v10
  let c_3 : IVec S_ 1 := constantI S_ 1 1#1
  let v12 : IVec S1024x32 1 := (fun x v => Host.reduce IntOp.andi x v reducesTo_S1024x32x1_S1024x32_d2 h_S_) v11 c_3
  let v13 : FVec F S1024x32 .f32 := (fun x i => Host.gather gather_S1024x16384_S1024x32x1_S1024x32_n_1_0_0_1_2_11 x i) arg0 v5
  let cst : FVec F S_ .f32 := constant S_ .f32 0x7FC00000#32
  let v14 : FVec F S1024x32 .f32 := broadcastInDim S1024x32 ![] bcast_S_S1024x32 cst
  let v15 : FVec F S1024x32 .f32 := select v12 v13 v14
  v15

def fn_part1 {F : FTy → Type} [FloatOps F] (main_v19 : IVec S1024x32 1) (main_v21 : IVec S1024x32 1) : IVec S1024x32 1 :=
  let main_v22 : IVec S1024x32 1 := ori main_v19 main_v21
  main_v22

def fn {F : FTy → Type} [FloatOps F] (main_arg0 : FVec F S1024x16384 .f32) : IVec S1024x32 1 :=
  let main_v0 : FVec F S1024x16384 .f32 := Host.negf main_arg0
  let main_v1 : IVec S1024x16384 32 := fn_argsort (F := F) main_v0
  let main_v2 : IVec S1024x32 32 := (extractStridedSlice S1024x32 ![0, 0] · slices_S1024x16384_S1024x32_0_0) main_v1
  let main_v3 : FVec F S1024x32 .f32 := fn_take_along_axis (F := F) main_arg0 main_v2
  let main_v4 : FVec F S1024x31 .f32 := (extractStridedSlice S1024x31 ![0, 0] · slices_S1024x32_S1024x31_0_0) main_v3
  let main_v5 : FVec F S1024x31 .f32 := (extractStridedSlice S1024x31 ![0, 1] · slices_S1024x32_S1024x31_0_1) main_v3
  let main_v6 : IVec S1024x31 1 := cmpf .ogt main_v4 main_v5
  let main_v7 : IVec S31 32 := iotaInDim S31 32 0
  let main_v8 : IVec S1x31 32 := broadcastInDim S1x31 ![1] bcast_S31_S1x31_1 main_v7
  let main_v9 : IVec S32 32 := iotaInDim S32 32 0
  let main_v10 : IVec S32x1 32 := broadcastInDim S32x1 ![0] bcast_S32_S32x1_0 main_v9
  let main_v11 : IVec S32x31 32 := broadcastInDim S32x31 ![0, 1] bcast_S1x31_S32x31_0_1 main_v8
  let main_v12 : IVec S32x31 32 := broadcastInDim S32x31 ![0, 1] bcast_S32x1_S32x31_0_1 main_v10
  let main_v13 : IVec S32x31 1 := cmpi .sge main_v11 main_v12
  let main_v14 : IVec S1024x1x31 1 := broadcastInDim S1024x1x31 ![0, 2] bcast_S1024x31_S1024x1x31_0_2 main_v6
  let main_v15 : IVec S1x32x31 1 := broadcastInDim S1x32x31 ![1, 2] bcast_S32x31_S1x32x31_1_2 main_v13
  let main_v16 : IVec S1024x32x31 1 := broadcastInDim S1024x32x31 ![0, 1, 2] bcast_S1024x1x31_S1024x32x31_0_1_2 main_v14
  let main_v17 : IVec S1024x32x31 1 := broadcastInDim S1024x32x31 ![0, 1, 2] bcast_S1x32x31_S1024x32x31_0_1_2 main_v15
  let main_v18 : IVec S1024x32x31 1 := ori main_v16 main_v17
  let main_c : IVec S_ 1 := constantI S_ 1 1#1
  let main_v19 : IVec S1024x32 1 := (fun x v => Host.reduce IntOp.andi x v reducesTo_S1024x32x31_S1024x32_d2 h_S_) main_v18 main_c
  let main_cst : FVec F S_ .f32 := constant S_ .f32 0xFF800000#32
  let main_v20 : FVec F S1024x32 .f32 := broadcastInDim S1024x32 ![] bcast_S_S1024x32 main_cst
  let main_v21 : IVec S1024x32 1 := cmpf .oeq main_v3 main_v20
  fn_part1 (F := F) main_v19 main_v21
-- ==== Kernel.lean ====
abbrev S1024x8192 : Shape := ⟨2, ![1024, 8192]⟩
abbrev S1024x32 : Shape := ⟨2, ![1024, 32]⟩
abbrev S2x128x8192 : Shape := ⟨3, ![2, 128, 8192]⟩
abbrev S256x32 : Shape := ⟨2, ![256, 32]⟩
abbrev S2 : Shape := ⟨1, ![2]⟩
abbrev S_ : Shape := ⟨0, ![]⟩
abbrev S3 : Shape := ⟨1, ![3]⟩
abbrev S1 : Shape := ⟨1, ![1]⟩
abbrev S1x128x8192 : Shape := ⟨3, ![1, 128, 8192]⟩
abbrev S128x8192 : Shape := ⟨2, ![128, 8192]⟩
abbrev S128x256 : Shape := ⟨2, ![128, 256]⟩
abbrev S128x128 : Shape := ⟨2, ![128, 128]⟩
abbrev S128x64 : Shape := ⟨2, ![128, 64]⟩
abbrev S128x32 : Shape := ⟨2, ![128, 32]⟩
abbrev S128x16 : Shape := ⟨2, ![128, 16]⟩
abbrev S128x8 : Shape := ⟨2, ![128, 8]⟩
abbrev S128 : Shape := ⟨1, ![128]⟩
abbrev S128x1 : Shape := ⟨2, ![128, 1]⟩
abbrev S256x64 : Shape := ⟨2, ![256, 64]⟩
abbrev S256 : Shape := ⟨1, ![256]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S2x128x8192, .f32⟩
  | .local _ .vmem, ⟨2, _⟩ => ⟨S256x32, .f32⟩
  | .local _ .vmem, ⟨3, _⟩ => ⟨S256x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v15 : BitVec 32 := Scalar.muli v2 c4_i32_9
  let v16 : BitVec 32 := Scalar.addi c0_i32 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v17 : BitVec 32 := Scalar.muli v5 c2_i32_10
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_11 : BitVec 32 := 1#32
  let v19 : BitVec 32 := Scalar.muli v9 c1_i32_11
  let v20 : BitVec 32 := Scalar.addi v18 v19
  v20.toNat
def k0_dev2 (d0 : Dev nD) : Nat :=
  let c0_i32_14 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_13 : BitVec 32 := 4#32
  let v21 : BitVec 32 := Scalar.muli v10 c4_i32_13
  let v22 : BitVec 32 := Scalar.addi c0_i32_14 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v23 : BitVec 32 := Scalar.muli v5 c2_i32_15
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v25 : BitVec 32 := Scalar.muli v8 c1_i32_16
  let v26 : BitVec 32 := Scalar.addi v24 v25
  v26.toNat
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v27 : BitVec 32 := Scalar.muli v2 c4_i32_18
  let v28 : BitVec 32 := Scalar.addi c0_i32_19 v27
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_20 : BitVec 32 := 2#32
  let v29 : BitVec 32 := Scalar.muli v11 c2_i32_20
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v31 : BitVec 32 := Scalar.muli v8 c1_i32_21
  let v32 : BitVec 32 := Scalar.addi v30 v31
  v32.toNat
def k0_dev4 (d0 : Dev nD) : Nat :=
  let c0_i32_24 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_23 : BitVec 32 := 4#32
  let v33 : BitVec 32 := Scalar.muli v12 c4_i32_23
  let v34 : BitVec 32 := Scalar.addi c0_i32_24 v33
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_25 : BitVec 32 := 2#32
  let v35 : BitVec 32 := Scalar.muli v13 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off1 (d0 : Dev nD) (c0_i32_29 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_28 : BitVec 32 := 2#32
  let v39 : BitVec 32 := Scalar.muli v2 c2_i32_28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c256_i32 : BitVec 32 := 256#32
  let v41 : BitVec 32 := Scalar.muli v40 c256_i32
  let v42 : BitVec 32 := Scalar.addi v41 c0_i32_29
  let c0_i32_34 : BitVec 32 := 0#32
  ![v42.toNat, 0]
def k0_dev5 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v4040 : BitVec 32 := Scalar.muli v2 c4_i32_184
  let v4041 : BitVec 32 := Scalar.addi c0_i32_185 v4040
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v4042 : BitVec 32 := Scalar.muli v5 c2_i32_186
  let v4043 : BitVec 32 := Scalar.addi v4041 v4042
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_187 : BitVec 32 := 1#32
  let v4044 : BitVec 32 := Scalar.muli v9 c1_i32_187
  let v4045 : BitVec 32 := Scalar.addi v4043 v4044
  v4045.toNat
def k0_off2 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_28 : BitVec 32 := 2#32
  let v39 : BitVec 32 := Scalar.muli v2 c2_i32_28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c256_i32 : BitVec 32 := 256#32
  let v41 : BitVec 32 := Scalar.muli v40 c256_i32
  let v4244 : Index := Scalar.indexCast v41
  let c0_260 : Index := 0#32
  ![v4244.toNat, 0]
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_28 : BitVec 32 := 2#32
  let v39 : BitVec 32 := Scalar.muli v2 c2_i32_28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c256_i32 : BitVec 32 := 256#32
  let v41 : BitVec 32 := Scalar.muli v40 c256_i32
  let c0_i32_267 : BitVec 32 := 0#32
  ![v41.toNat, 0]
def k0_dev6 (d0 : Dev nD) : Nat :=
  let c0_i32_264 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_263 : BitVec 32 := 4#32
  let v4246 : BitVec 32 := Scalar.muli v10 c4_i32_263
  let v4247 : BitVec 32 := Scalar.addi c0_i32_264 v4246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v4248 : BitVec 32 := Scalar.muli v5 c2_i32_265
  let v4249 : BitVec 32 := Scalar.addi v4247 v4248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v4250 : BitVec 32 := Scalar.muli v8 c1_i32_266
  let v4251 : BitVec 32 := Scalar.addi v4249 v4250
  v4251.toNat
def k0_dev7 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v4258 : BitVec 32 := Scalar.muli v2 c4_i32_271
  let v4259 : BitVec 32 := Scalar.addi c0_i32_272 v4258
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_273 : BitVec 32 := 2#32
  let v4260 : BitVec 32 := Scalar.muli v11 c2_i32_273
  let v4261 : BitVec 32 := Scalar.addi v4259 v4260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v4262 : BitVec 32 := Scalar.muli v8 c1_i32_274
  let v4263 : BitVec 32 := Scalar.addi v4261 v4262
  v4263.toNat
def k0_dev8 (d0 : Dev nD) : Nat :=
  let c0_i32_280 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_279 : BitVec 32 := 4#32
  let v4270 : BitVec 32 := Scalar.muli v12 c4_i32_279
  let v4271 : BitVec 32 := Scalar.addi c0_i32_280 v4270
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_281 : BitVec 32 := 2#32
  let v4272 : BitVec 32 := Scalar.muli v13 c2_i32_281
  let v4273 : BitVec 32 := Scalar.addi v4271 v4272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_282 : BitVec 32 := 1#32
  let v4274 : BitVec 32 := Scalar.muli v8 c1_i32_282
  let v4275 : BitVec 32 := Scalar.addi v4273 v4274
  v4275.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Net.lean ====
/-
# Sorting networks as binary trees

A vector of `2 ^ n` entries is kept as a perfect binary tree, the first half of the entries in the left subtree. A
compare-exchange stage between the two halves is then an entrywise operation on two subtrees, and Batcher's merge and sort are
recursions on the depth. The definitions are over any two operations `mx` and `mn` on the entries, so that the same network runs
on vector registers (every entry a register) and on numbers (every entry one lane of one row).
-/
module

public import Mathlib.Order.Lattice

@[expose] public section

namespace Cert.TopK

/-- Perfect binary trees of depth `n` with entries in `α`. -/
def Tr (α : Type) (n : ℕ) : Type := Nat.rec (motive := fun _ => Type) α (fun _ T => T × T) n

namespace Tr

variable {α β : Type}

/-- The tree whose entry number `k` (counted from `off`) is `f k`. -/
def build (f : ℕ → α) (n : ℕ) : ℕ → Tr α n :=
  Nat.rec (motive := fun n => ℕ → Tr α n) (fun off => f off) (fun n ih off => (ih off, ih (off + 2 ^ n))) n

/-- Two trees combined entry by entry. -/
def zip (f : α → α → α) (n : ℕ) : Tr α n → Tr α n → Tr α n :=
  Nat.rec (motive := fun n => Tr α n → Tr α n → Tr α n) f (fun _ ih s t => (ih s.1 t.1, ih s.2 t.2)) n

/-- A function applied at every entry. -/
def map (f : α → β) (n : ℕ) : Tr α n → Tr β n :=
  Nat.rec (motive := fun n => Tr α n → Tr β n) f (fun _ ih t => (ih t.1, ih t.2)) n

/-- The entries in reverse order. -/
def rev (n : ℕ) : Tr α n → Tr α n :=
  Nat.rec (motive := fun n => Tr α n → Tr α n) (fun t => t) (fun _ ih t => (ih t.2, ih t.1)) n

/-- Batcher's merge: the greater entries (by `mx`) to the front. -/
def merge (mx mn : α → α → α) (n : ℕ) : Tr α n → Tr α n :=
  Nat.rec (motive := fun n => Tr α n → Tr α n) (fun t => t) (fun n ih t => (ih (zip mx n t.1 t.2), ih (zip mn n t.1 t.2))) n

/-- Batcher's sort: the halves sorted in opposite directions, then merged; descending for `true`. -/
def sort (mx mn : α → α → α) (n : ℕ) : Bool → Tr α n → Tr α n :=
  Nat.rec (motive := fun n => Bool → Tr α n → Tr α n) (fun _ t => t)
    (fun n ih desc t =>
      Bool.rec (merge mn mx (n + 1) (ih true t.1, ih false t.2)) (merge mx mn (n + 1) (ih true t.1, ih false t.2)) desc) n

/-- Entry number `i`. -/
def get (n : ℕ) : Tr α n → ℕ → α :=
  Nat.rec (motive := fun n => Tr α n → ℕ → α) (fun a _ => a) (fun n ih t i => if i < 2 ^ n then ih t.1 i else ih t.2 (i - 2 ^ n)) n

end Tr

end Cert.TopK
-- ==== Proof.Tops.lean ====
/-
# What the kernel computes between its memory operations

The two pure stretches of the body, each as one function of what was loaded before it: `chunkTop` takes a block of 128 rows of
the device's shard to 32 candidates a row (32 column slices sorted as registers, five halvings of the width each followed by a
merge, then 32 rounds of taking a row's greatest entry), and `lastTop` takes the two devices' candidates to the row's 32 results.
-/
module

public import proofs.«01_k».proof.Proof.Net
public import proofs.«01_k».proof.Proof.Gen.KernelIdeal

@[expose] public section

noncomputable section

namespace Cert.TopK

open Cert.KernelIdeal Cert.KernelIdeal.Gen Idealize.ShloMosaic

variable {F : FTy → Type} [FloatOps F]

/-- A register pair's halves combined: the left half of `a` and the right half of `b`, the greater entry by entry. -/
def cut {s t : Shape} (r : ℕ) (lo hi : Fin s.rank → ℕ) (h₀ : s.Slices lo t) (h₁ : s.Slices hi t) (T : Tr (FVec F s .f32) r) :
    Tr (FVec F t .f32) r :=
  Tr.merge maximumf minimumf r
    (Tr.zip maximumf r (Tr.map (fun a => extractStridedSlice t lo a h₀) r T)
      (Tr.map (fun a => extractStridedSlice t hi a h₁) r (Tr.rev r T)))

/-- The 32 column slices of a block, each 256 wide. -/
def slots (v : FVec F S128x8192 .f32) : Tr (FVec F S128x256 .f32) 5 :=
  Tr.build (fun k => extractStridedSlice S128x256 ![0, 256 * (k % 32)] v
    ((by decide : ∀ k : Fin 32, S128x8192.Slices ![0, 256 * k.val] S128x256) ⟨k % 32, Nat.mod_lt _ (by decide)⟩)) 5 0

/-- The slices sorted lane by lane, and cut to width 8. -/
def narrow (v : FVec F S128x8192 .f32) : Tr (FVec F S128x8 .f32) 5 :=
  cut 5 ![0, 0] ![0, 8] slices_S128x16_o0_0_S128x8 slices_S128x16_o0_8_S128x8
    (cut 5 ![0, 0] ![0, 16] slices_S128x32_o0_0_S128x16 slices_S128x32_o0_16_S128x16
      (cut 5 ![0, 0] ![0, 32] slices_S128x64_o0_0_S128x32 slices_S128x64_o0_32_S128x32
        (cut 5 ![0, 0] ![0, 64] slices_S128x128_o0_0_S128x64 slices_S128x128_o0_64_S128x64
          (cut 5 ![0, 0] ![0, 128] slices_S128x256_o0_0_S128x128 slices_S128x256_o0_128_S128x128
            (Tr.sort maximumf minimumf 5 true (slots v))))))

/-- A tree of 32 registers side by side. -/
def beside (T : Tr (FVec F S128x8 .f32) 5) : FVec F S128x256 .f32 :=
  concatenate S128x256 1
    [⟨S128x8, T.1.1.1.1.1⟩, ⟨S128x8, T.1.1.1.1.2⟩, ⟨S128x8, T.1.1.1.2.1⟩, ⟨S128x8, T.1.1.1.2.2⟩,
     ⟨S128x8, T.1.1.2.1.1⟩, ⟨S128x8, T.1.1.2.1.2⟩, ⟨S128x8, T.1.1.2.2.1⟩, ⟨S128x8, T.1.1.2.2.2⟩,
     ⟨S128x8, T.1.2.1.1.1⟩, ⟨S128x8, T.1.2.1.1.2⟩, ⟨S128x8, T.1.2.1.2.1⟩, ⟨S128x8, T.1.2.1.2.2⟩,
     ⟨S128x8, T.1.2.2.1.1⟩, ⟨S128x8, T.1.2.2.1.2⟩, ⟨S128x8, T.1.2.2.2.1⟩, ⟨S128x8, T.1.2.2.2.2⟩,
     ⟨S128x8, T.2.1.1.1.1⟩, ⟨S128x8, T.2.1.1.1.2⟩, ⟨S128x8, T.2.1.1.2.1⟩, ⟨S128x8, T.2.1.1.2.2⟩,
     ⟨S128x8, T.2.1.2.1.1⟩, ⟨S128x8, T.2.1.2.1.2⟩, ⟨S128x8, T.2.1.2.2.1⟩, ⟨S128x8, T.2.1.2.2.2⟩,
     ⟨S128x8, T.2.2.1.1.1⟩, ⟨S128x8, T.2.2.1.1.2⟩, ⟨S128x8, T.2.2.1.2.1⟩, ⟨S128x8, T.2.2.1.2.2⟩,
     ⟨S128x8, T.2.2.2.1.1⟩, ⟨S128x8, T.2.2.2.1.2⟩, ⟨S128x8, T.2.2.2.2.1⟩, ⟨S128x8, T.2.2.2.2.2⟩]
    concatenates_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x8_S128x256_d1

/-- The greatest entry of every row, as a column. -/
def rowMax (R C : ℕ) (hR : (⟨2, ![R, C]⟩ : Shape).Reduces [1] ⟨1, ![R]⟩) (hc : (⟨1, ![R]⟩ : Shape).ShapeCasts ⟨2, ![R, 1]⟩)
    (w : FVec F ⟨2, ![R, C]⟩ .f32) : FVec F ⟨2, ![R, 1]⟩ .f32 :=
  shapeCast ⟨2, ![R, 1]⟩ (multiReduction .maximumf [1] ⟨1, ![R]⟩ w 0xFF800000#32 hR (.inl rfl) rfl) hc

/-- Every entry equal to the greatest of its row replaced by -inf. -/
def dropMax (R C : ℕ) (hR : (⟨2, ![R, C]⟩ : Shape).Reduces [1] ⟨1, ![R]⟩) (hc : (⟨1, ![R]⟩ : Shape).ShapeCasts ⟨2, ![R, 1]⟩)
    (hb : (⟨2, ![R, 1]⟩ : Shape).Broadcasts ⟨2, ![R, C]⟩) (w : FVec F ⟨2, ![R, C]⟩ .f32) : FVec F ⟨2, ![R, C]⟩ .f32 :=
  select (cmpf .oeq w (broadcastTo ⟨2, ![R, C]⟩ (rowMax R C hR hc w) hb))
    (broadcast ⟨2, ![R, C]⟩ (Scalar.ofBits .f32 0xFF800000#32)) w

/-- What is left of `w` after `j` rounds. -/
def remain (R C : ℕ) (hR : (⟨2, ![R, C]⟩ : Shape).Reduces [1] ⟨1, ![R]⟩) (hc : (⟨1, ![R]⟩ : Shape).ShapeCasts ⟨2, ![R, 1]⟩)
    (hb : (⟨2, ![R, 1]⟩ : Shape).Broadcasts ⟨2, ![R, C]⟩) (w : FVec F ⟨2, ![R, C]⟩ .f32) (j : ℕ) : FVec F ⟨2, ![R, C]⟩ .f32 :=
  Nat.rec (motive := fun _ => FVec F ⟨2, ![R, C]⟩ .f32) w (fun _ u => dropMax R C hR hc hb u) j

/-- The column that round `j` takes. -/
def taken (R C : ℕ) (hR : (⟨2, ![R, C]⟩ : Shape).Reduces [1] ⟨1, ![R]⟩) (hc : (⟨1, ![R]⟩ : Shape).ShapeCasts ⟨2, ![R, 1]⟩)
    (hb : (⟨2, ![R, 1]⟩ : Shape).Broadcasts ⟨2, ![R, C]⟩) (w : FVec F ⟨2, ![R, C]⟩ .f32) (j : ℕ) : FVec F ⟨2, ![R, 1]⟩ .f32 :=
  rowMax R C hR hc (remain R C hR hc hb w j)

/-- The columns of 32 rounds side by side. -/
def rounds (R C : ℕ) (hR : (⟨2, ![R, C]⟩ : Shape).Reduces [1] ⟨1, ![R]⟩) (hc : (⟨1, ![R]⟩ : Shape).ShapeCasts ⟨2, ![R, 1]⟩)
    (hb : (⟨2, ![R, 1]⟩ : Shape).Broadcasts ⟨2, ![R, C]⟩)
    (h32 : Shape.Concatenates (List.replicate 32 (⟨2, ![R, 1]⟩ : Shape)) ⟨2, ![R, 32]⟩ 1) (w : FVec F ⟨2, ![R, C]⟩ .f32) :
    FVec F ⟨2, ![R, 32]⟩ .f32 :=
  let c : ℕ → (s : Shape) × (s.Idx → F .f32) := fun j => ⟨⟨2, ![R, 1]⟩, taken R C hR hc hb w j⟩
  concatenate ⟨2, ![R, 32]⟩ 1
    [c 0, c 1, c 2, c 3, c 4, c 5, c 6, c 7, c 8, c 9, c 10, c 11, c 12, c 13, c 14, c 15,
     c 16, c 17, c 18, c 19, c 20, c 21, c 22, c 23, c 24, c 25, c 26, c 27, c 28, c 29, c 30, c 31] h32

/-- The 32 candidates a row that a device takes from a block of its shard. -/
def chunkTop (v : Vec F S1x128x8192 .f32) : FVec F S128x32 .f32 :=
  rounds 128 256 reduces_S128x256_S128 shapeCasts_S128_S128x1 broadcasts_S128x1_S128x256
    concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1
    (beside (narrow (shapeCast S128x8192 v shapeCasts_S1x128x8192_S128x8192)))

/-- The candidates as the kernel stores them. -/
def chunkOut (v : Vec F S1x128x8192 .f32) : FVec F S128x32 .f32 := shapeCast S128x32 (chunkTop v) shapeCasts_S128x32_S128x32

/-- The 32 results a row from a device's own candidates and its partner's. -/
def lastTop (a b : Vec F S256x32 .f32) : FVec F S256x32 .f32 :=
  rounds 256 64 reduces_S256x64_S256 shapeCasts_S256_S256x1 broadcasts_S256x1_S256x64
    concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1
    (concatenate S256x64 1 [⟨S256x32, a⟩, ⟨S256x32, b⟩] concatenates_S256x32_S256x32_S256x64_d1)

end Cert.TopK
-- ==== Proof.Short.lean ====
/-
# The body without its pure stretches

`body` is the kernel's body as its memory operations alone: what it stores is `chunkOut` and `lastTop` of what it loaded.
`cc0_body_eq` says that the printed body is this program.
-/
module

public import proofs.«01_k».proof.Proof.Tops
public import proofs.«01_k».proof.Proof.Gen.KernelIdeal.Skeleton
public import Idealize.ShloMosaic.Lib.Pipeline.Regions

@[expose] public section

noncomputable section

namespace Cert.TopK

open Cert.KernelIdeal Cert.KernelIdeal.Gen Idealize.ShloMosaic Idealize.SL.Sem

variable {F : FTy → Type} [FloatOps F]

/-- Slot `r` of the two load semaphores, the three send semaphores' slots and the three receive semaphores' slots. -/
abbrev sem2 (a : DmaSems sig S2) (off : Fin 1 → ℕ) (h : ∀ a, off a + S1.size a ≤ S2.size a) : DmaSem sig :=
  ((a.slice (Rect.unit (s := S2) off S1.size h)).squeeze S_ squeezes_S1_S_).sem
abbrev sem3 (a : DmaSems sig S3) (off : Fin 1 → ℕ) (h : ∀ a, off a + S1.size a ≤ S3.size a) : DmaSem sig :=
  ((a.slice (Rect.unit (s := S3) off S1.size h)).squeeze S_ squeezes_S1_S_).sem

/-- The body's memory operations, in the kernel's order. -/
def body (arg0 : Memref sig .tc .hbm S1024x8192 .f32) (harg0 : arg0.IsWhole) (arg1 : Memref sig .tc .vmem S1024x32 .f32) (harg1 : arg1.IsWhole)
    (arg2 : Memref sig .tc .vmem S2x128x8192 .f32) (harg2 : arg2.IsWhole) (arg3 : Memref sig .tc .vmem S256x32 .f32) (harg3 : arg3.IsWhole)
    (arg4 : Memref sig .tc .vmem S256x32 .f32) (harg4 : arg4.IsWhole) (arg5 : DmaSems sig S2) (arg6 : DmaSems sig S_) (arg7 : DmaSems sig S_)
    (arg8 : DmaSems sig S3) (arg9 : DmaSems sig S3) : Prog (TpuEff nD τ sig (Elt F) Λ₀ .tc) PUnit := do
  let d0 : Dev nD ← Prog.lift .deviceId
  let v14 : Sems sig S_ := SemArray.scalar (sig.barrier 0 rfl)
  semSignalWord (⟨k0_dev1 d0, k0_dev1_lt d0⟩ : Dev nD) v14.sem 1#32
  semSignalWord (⟨k0_dev2 d0, k0_dev2_lt d0⟩ : Dev nD) v14.sem 1#32
  semSignalWord (⟨k0_dev3 d0, k0_dev3_lt d0⟩ : Dev nD) v14.sem 1#32
  semSignalWord (⟨k0_dev4 d0, k0_dev4_lt d0⟩ : Dev nD) v14.sem 1#32
  semWaitWord v14.sem 4#32
  let work (off : Fin 3 → ℕ) (h : ∀ a, off a + S1x128x8192.size a ≤ S2x128x8192.size a) : Memref sig .tc .vmem S128x8192 .f32 :=
    (arg2.slice (Rect.unit (s := S2x128x8192) off S1x128x8192.size h) (fun _ => rfl)).squeeze S128x8192 squeezes_S1x128x8192_S128x8192
  let from0 : Memref sig .tc .hbm S128x8192 .f32 := arg0.slice (Rect.unit (s := S1024x8192) (k0_off1 d0 0#32) S128x8192.size (k0_off1_inb d0 0)) (fun _ => rfl)
  let from1 : Memref sig .tc .hbm S128x8192 .f32 := arg0.slice (Rect.unit (s := S1024x8192) (k0_off1 d0 128#32) S128x8192.size (k0_off1_inb d0 1)) (fun _ => rfl)
  Prog.lift (.enqueueDma from0 (.here (work ![0, 0, 0] inb_S2x128x8192_S1x128x8192_0_0_0)) (.dma (sem2 arg5 ![0] inb_S2_S1_0)) (View.wordExact_bits rfl) ((View.wordExact_bits rfl).reshape _ _) ⟨Or.inl rfl, trivial⟩)
  Prog.lift (.enqueueDma from1 (.here (work ![1, 0, 0] inb_S2x128x8192_S1x128x8192_1_0_0)) (.dma (sem2 arg5 ![1] inb_S2_S1_1)) (View.wordExact_bits rfl) ((View.wordExact_bits rfl).reshape _ _) ⟨Or.inl rfl, trivial⟩)
  Prog.lift (.waitDma2 (sem2 arg5 ![0] inb_S2_S1_0) from0 (work ![0, 0, 0] inb_S2x128x8192_S1x128x8192_0_0_0) (View.wordExact_bits rfl) ((View.wordExact_bits rfl).reshape _ _))
  let x0 : Vec F S1x128x8192 .f32 ← Prog.lift (.load arg2 (Rect.unit (s := S2x128x8192) ![0, 0, 0] S1x128x8192.size inb_S2x128x8192_S1x128x8192_0_0_0).toLoadRect (View.loadsAt_vmem h_S1x128x8192))
  let _ : Vec F S128x32 .f32 ← Prog.lift (.load arg3 (Rect.unit (s := S256x32) ![0, 0] S128x32.size inb_S256x32_S128x32_0_0).toLoadRect (View.loadsAt_vmem h_S128x32))
  Prog.lift (.store arg3 (Rect.unit (s := S256x32) ![0, 0] S128x32.size inb_S256x32_S128x32_0_0) (chunkOut x0) Finset.univ (View.stores_vmem_bits_univ h_S128x32 rfl) (.inl rfl))
  Prog.lift (.waitDma2 (sem2 arg5 ![1] inb_S2_S1_1) from1 (work ![1, 0, 0] inb_S2x128x8192_S1x128x8192_1_0_0) (View.wordExact_bits rfl) ((View.wordExact_bits rfl).reshape _ _))
  let x1 : Vec F S1x128x8192 .f32 ← Prog.lift (.load arg2 (Rect.unit (s := S2x128x8192) ![1, 0, 0] S1x128x8192.size inb_S2x128x8192_S1x128x8192_1_0_0).toLoadRect (View.loadsAt_vmem h_S1x128x8192))
  let _ : Vec F S128x32 .f32 ← Prog.lift (.load arg3 (Rect.unit (s := S256x32) ![128, 0] S128x32.size inb_S256x32_S128x32_128_0).toLoadRect (View.loadsAt_vmem h_S128x32))
  Prog.lift (.store arg3 (Rect.unit (s := S256x32) ![128, 0] S128x32.size inb_S256x32_S128x32_128_0) (chunkOut x1) Finset.univ (View.stores_vmem_bits_univ h_S128x32 rfl) (.inl rfl))
  Prog.lift (.enqueueDma arg3 (.remote (Dev.tc (⟨k0_dev5 d0, k0_dev5_lt d0⟩ : Dev nD)) arg4 (.dma arg6.sem)) (.dma arg7.sem) harg3.wordExact harg4.wordExact ⟨⟨rfl, Or.inl rfl⟩, trivial⟩)
  Prog.lift (.waitDma2 arg6.sem arg4 arg3 harg4.wordExact harg3.wordExact)
  Prog.lift (.waitDma2 arg7.sem arg3 arg4 harg3.wordExact harg4.wordExact)
  let a : Vec F S256x32 .f32 ← Prog.lift (.load arg3 (Rect.unit (s := S256x32) ![0, 0] S256x32.size inb_S256x32_S256x32_0_0).toLoadRect (View.loadsAt_vmem h_S256x32))
  let b : Vec F S256x32 .f32 ← Prog.lift (.load arg4 (Rect.unit (s := S256x32) ![0, 0] S256x32.size inb_S256x32_S256x32_0_0).toLoadRect (View.loadsAt_vmem h_S256x32))
  let _ : Vec F S256x32 .f32 ← Prog.lift (.load arg1 (Rect.unit (s := S1024x32) (k0_off2 d0) S256x32.size (k0_off2_inb d0)).toLoadRect (View.loadsAt_vmem h_S256x32))
  Prog.lift (.store arg1 (Rect.unit (s := S1024x32) (k0_off2 d0) S256x32.size (k0_off2_inb d0)) (lastTop a b) Finset.univ (View.stores_vmem_bits_univ h_S256x32 rfl) (.inl rfl))
  let mine : Memref sig .tc .vmem S256x32 .f32 := arg1.slice (Rect.unit (s := S1024x32) (k0_off3 d0) S256x32.size (k0_off3_inb d0)) (fun _ => rfl)
  Prog.lift (.enqueueDma mine (.remote (Dev.tc (⟨k0_dev6 d0, k0_dev6_lt d0⟩ : Dev nD)) mine (.dma (sem3 arg8 ![0] inb_S3_S1_0))) (.dma (sem3 arg9 ![0] inb_S3_S1_0)) (View.wordExact_bits rfl) (View.wordExact_bits rfl) ⟨⟨rfl, Or.inl rfl⟩, trivial⟩)
  Prog.lift (.enqueueDma mine (.remote (Dev.tc (⟨k0_dev7 d0, k0_dev7_lt d0⟩ : Dev nD)) mine (.dma (sem3 arg8 ![1] inb_S3_S1_1))) (.dma (sem3 arg9 ![1] inb_S3_S1_1)) (View.wordExact_bits rfl) (View.wordExact_bits rfl) ⟨⟨rfl, Or.inl rfl⟩, trivial⟩)
  Prog.lift (.enqueueDma mine (.remote (Dev.tc (⟨k0_dev8 d0, k0_dev8_lt d0⟩ : Dev nD)) mine (.dma (sem3 arg8 ![2] inb_S3_S1_2))) (.dma (sem3 arg9 ![2] inb_S3_S1_2)) (View.wordExact_bits rfl) (View.wordExact_bits rfl) ⟨⟨rfl, Or.inl rfl⟩, trivial⟩)
  Prog.lift (.waitDma2 (sem3 arg8 ![0] inb_S3_S1_0) mine mine (View.wordExact_bits rfl) (View.wordExact_bits rfl))
  Prog.lift (.waitDma2 (sem3 arg9 ![0] inb_S3_S1_0) mine mine (View.wordExact_bits rfl) (View.wordExact_bits rfl))
  Prog.lift (.waitDma2 (sem3 arg8 ![1] inb_S3_S1_1) mine mine (View.wordExact_bits rfl) (View.wordExact_bits rfl))
  Prog.lift (.waitDma2 (sem3 arg9 ![1] inb_S3_S1_1) mine mine (View.wordExact_bits rfl) (View.wordExact_bits rfl))
  Prog.lift (.waitDma2 (sem3 arg8 ![2] inb_S3_S1_2) mine mine (View.wordExact_bits rfl) (View.wordExact_bits rfl))
  Prog.lift (.waitDma2 (sem3 arg9 ![2] inb_S3_S1_2) mine mine (View.wordExact_bits rfl) (View.wordExact_bits rfl))
  pure ⟨⟩

set_option maxRecDepth 65536 in
set_option maxHeartbeats 4000000 in
/-- The printed body is these memory operations: by unfolding. -/
theorem cc0_body_eq : cc0_body (F := F) = body (F := F) := by
  chain_rfl

end Cert.TopK
-- ==== Proof.Proto.lean ====
/-
# The protocol

The mesh is 2 x 2 x 2, device `4 x + 2 y + z`. Device `c` talks to four peers: its `z` flip (0), `x` flip (1), `y` flip (2) and
`x` and `y` flip (3). Every synchronisation cell has one round:

* the barrier: four duties of one unit, duty `i` paid by peer `i`. Peer 0's hands over its buffer for the partner's
  candidates; peers 1, 2, 3 hand over the rows of their result that the device will write;
* two load cells: the device's own local copies of 128 rows each, handing back the slot filled and the share of the rows read;
* the `z` exchange's send and receive cells: the device's own candidates back; the peer's candidates arrived;
* three send and three receive cells of the gather: a share of the device's own rows back; a peer's rows arrived.

The contents are named from the first: `candV c`, a device's candidates, and `outV c`, the whole result it ends with.
-/
module

public import proofs.«01_k».proof.Proof.Short
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peers -/

/-- Peer `i` of a device: the `z`, `x`, `y`, `x` and `y` flips. -/
def peer (i : Fin 4) (c : Dev nD) : Dev nD :=
  match i with
  | 0 => ⟨(4 * (c.val / 4) + 2 * ((c.val / 2) % 2) + 1) - (c.val % 2), by have h : c.val < 8 := c.isLt; show _ < 8; omega⟩
  | 1 => ⟨(2 * ((c.val / 2) % 2) + (c.val % 2) + 4) - 4 * (c.val / 4), by have h : c.val < 8 := c.isLt; show _ < 8; omega⟩
  | 2 => ⟨(4 * (c.val / 4) + (c.val % 2) + 2) - 2 * ((c.val / 2) % 2), by have h : c.val < 8 := c.isLt; show _ < 8; omega⟩
  | 3 => ⟨((c.val % 2) + 6) - (4 * (c.val / 4) + 2 * ((c.val / 2) % 2)), by have h : c.val < 8 := c.isLt; show _ < 8; omega⟩

theorem peer_peer (i : Fin 4) (c : Dev nD) : peer i (peer i c) = c := by revert i c; decide +kernel

theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 3 c := Fin.ext (k0_dev4_eq c)
theorem dev5_eq (c : Dev nD) : (⟨k0_dev5 c, k0_dev5_lt c⟩ : Dev nD) = peer 0 c := Fin.ext (k0_dev5_eq c)
theorem dev6_eq (c : Dev nD) : (⟨k0_dev6 c, k0_dev6_lt c⟩ : Dev nD) = peer 1 c := Fin.ext (k0_dev6_eq c)
theorem dev7_eq (c : Dev nD) : (⟨k0_dev7 c, k0_dev7_lt c⟩ : Dev nD) = peer 2 c := Fin.ext (k0_dev7_eq c)
theorem dev8_eq (c : Dev nD) : (⟨k0_dev8 c, k0_dev8_lt c⟩ : Dev nD) = peer 3 c := Fin.ext (k0_dev8_eq c)

/-- Device of quadrant `b` with `c`'s `z`. -/
def quad (c : Dev nD) (b : Fin 4) : Dev nD := ⟨2 * b.val + c.val % 2, by have := b.isLt; show _ < 8; omega⟩
/-- A device's quadrant. -/
def quadOf (c : Dev nD) : Fin 4 := ⟨c.val / 2, by have h : c.val < 8 := c.isLt; omega⟩

theorem quad_peer (i : Fin 4) (hi : i ≠ 0) (c : Dev nD) (b : Fin 4) : quad (peer i c) b = quad c b := by revert i c b; decide +kernel
theorem quad_quadOf (c : Dev nD) : quad c (quadOf c) = c := by revert c; decide +kernel
theorem peer_cover (c : Dev nD) (b : Fin 4) : b = quadOf c ∨ b = quadOf (peer 1 c) ∨ b = quadOf (peer 2 c) ∨ b = quadOf (peer 3 c) := by
  revert c b; decide +kernel
theorem quadOf_peer_inj (i j : Fin 4) (hi : i ≠ 0) (hj : j ≠ 0) (hij : i ≠ j) (c : Dev nD) :
    quadOf (peer i c) ≠ quadOf (peer j c) ∧ quadOf (peer i c) ≠ quadOf c := by revert i j c; decide +kernel

/-! ## The memory references -/

abbrev xM : Memref sig .tc .hbm S1024x8192 .f32 := Memref.whole main_arg0
abbrev oM : Memref sig .tc .vmem S1024x32 .f32 := Memref.whole cc0_stg0_0
abbrev wM : Memref sig .tc .vmem S2x128x8192 .f32 := Memref.whole cc0_scratch0
abbrev aM : Memref sig .tc .vmem S256x32 .f32 := Memref.whole cc0_scratch1
abbrev bM : Memref sig .tc .vmem S256x32 .f32 := Memref.whole cc0_scratch2

abbrev work (off : Fin 3 → ℕ) (h : ∀ a, off a + S1x128x8192.size a ≤ S2x128x8192.size a) : Memref sig .tc .vmem S128x8192 .f32 :=
  (wM.slice (Rect.unit (s := S2x128x8192) off S1x128x8192.size h) (fun _ => rfl)).squeeze S128x8192 squeezes_S1x128x8192_S128x8192
abbrev w0 : Memref sig .tc .vmem S128x8192 .f32 := work ![0, 0, 0] inb_S2x128x8192_S1x128x8192_0_0_0
abbrev w1 : Memref sig .tc .vmem S128x8192 .f32 := work ![1, 0, 0] inb_S2x128x8192_S1x128x8192_1_0_0
abbrev x0 (c : Dev nD) : Memref sig .tc .hbm S128x8192 .f32 :=
  xM.slice (Rect.unit (s := S1024x8192) (k0_off1 c 0#32) S128x8192.size (k0_off1_inb c 0)) (fun _ => rfl)
abbrev x1 (c : Dev nD) : Memref sig .tc .hbm S128x8192 .f32 :=
  xM.slice (Rect.unit (s := S1024x8192) (k0_off1 c 128#32) S128x8192.size (k0_off1_inb c 1)) (fun _ => rfl)
/-- The rows of the result that device `d` computes. -/
abbrev rowsOf (d : Dev nD) : Memref sig .tc .vmem S256x32 .f32 :=
  oM.slice (Rect.unit (s := S1024x32) (k0_off3 d) S256x32.size (k0_off3_inb d)) (fun _ => rfl)

/-! ## The cells -/

abbrev barS : Sem sig := (SemArray.scalar (sig.barrier 0 rfl) : Sems sig S_).sem
abbrev csem : Fin 11 → SemLoc sig
  | 0 => .reg barS
  | 1 => .dma (sem2 cc0_scratch3 ![0] inb_S2_S1_0)
  | 2 => .dma (sem2 cc0_scratch3 ![1] inb_S2_S1_1)
  | 3 => .dma (cc0_scratch4 : DmaSems sig S_).sem
  | 4 => .dma (cc0_scratch5 : DmaSems sig S_).sem
  | 5 => .dma (sem3 cc0_scratch6 ![0] inb_S3_S1_0)
  | 6 => .dma (sem3 cc0_scratch6 ![1] inb_S3_S1_1)
  | 7 => .dma (sem3 cc0_scratch6 ![2] inb_S3_S1_2)
  | 8 => .dma (sem3 cc0_scratch7 ![0] inb_S3_S1_0)
  | 9 => .dma (sem3 cc0_scratch7 ![1] inb_S3_S1_1)
  | 10 => .dma (sem3 cc0_scratch7 ![2] inb_S3_S1_2)
/-- The launch's own ones: all but the barrier. -/
abbrev osem : Fin 10 → SemLoc sig := fun k => csem k.succ
abbrev kcell (ck : Dev nD × Fin 11) : GSem nD τ sig := ((ck.1 : Thread nD τ), csem ck.2)

theorem csem_injective : Function.Injective csem := by decide
def decode (s : SemLoc sig) : Option (Fin 11) := (List.finRange 11).find? fun k => decide (csem k = s)
theorem decode_csem (k : Fin 11) : decode (csem k) = some k := by revert k; decide
theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev NL : ℕ := w0.view.dmaCredit
abbrev NC : ℕ := bM.view.dmaCredit
abbrev NO : ℕ := (rowsOf 0).view.dmaCredit

/-- How much each duty of a cell brings, and which duties there are. -/
def amtK (k : Fin 11) : ℕ := if k = 0 then 1 else if k.val < 3 then NL else if k.val < 5 then NC else NO
def dutK (k : Fin 11) : Finset (Fin 4) := if k = 0 then Finset.univ else {0}

theorem amtK_pos (k : Fin 11) : 0 < amtK k := by
  unfold amtK
  split
  · exact Nat.one_pos
  split
  · exact View.dmaCredit_pos _ (by decide)
  split
  · exact View.dmaCredit_pos _ (by decide)
  · exact View.dmaCredit_pos _ (by decide)

theorem mem_dutK (k : Fin 11) : (0 : Fin 4) ∈ dutK k := by revert k; decide

/-! ## The contents -/

/-- A device's argument. -/
abbrev xV (c : Dev nD) : (main_arg0 : Ref sig .tc).ty.Contents (Elt F) := m ((c : Thread nD τ).loc main_arg0)

/-- The two blocks of 128 rows, as loaded. -/
def chunk0 (c : Dev nD) : Vec F S1x128x8192 .f32 := fun i =>
  (x0 c).view.read (Elt F) (xV m c) (ix2 (i 1) (i 2))
def chunk1 (c : Dev nD) : Vec F S1x128x8192 .f32 := fun i =>
  (x1 c).view.read (Elt F) (xV m c) (ix2 (i 1) (i 2))

/-- A device's candidates: 32 for each of its 256 rows. -/
def candV (c : Dev nD) : (cc0_scratch1 : Ref sig .tc).ty.Contents (Elt F) := fun i : S256x32.Idx =>
  if h : (i 0).val < 128 then chunkOut (chunk0 m c) (ix2 (n0 := 128) (n1 := 32) ⟨(i 0).val, h⟩ (i 1))
  else chunkOut (chunk1 m c) (ix2 (n0 := 128) (n1 := 32) ⟨(i 0).val - 128, by have h' : (i 0).val < 256 := (i 0).isLt; omega⟩ (i 1))

/-- The result every device of `c`'s `z` ends with: each quadrant's rows from the device of that quadrant. -/
def outV (c : Dev nD) : (cc0_stg0_0 : Ref sig .tc).ty.Contents (Elt F) := fun i : S1024x32.Idx =>
  let q : Dev nD := quad c ⟨(i 0).val / 256, by have h : (i 0).val < 1024 := (i 0).isLt; omega⟩
  lastTop (candV m q) (candV m (peer 0 q)) (ix2 (n0 := 256) (n1 := 32) ⟨(i 0).val % 256, Nat.mod_lt _ (by decide)⟩ (i 1))

omit [FloatOps F] in
theorem outV_peer [FloatOps F] (i : Fin 4) (hi : i ≠ 0) (c : Dev nD) : outV m (peer i c) = outV m c := by
  funext j; unfold outV; simp only [quad_peer i hi]

/-! ## The payloads -/

section Pts
variable (c : Dev nD)
abbrev xPts (S : Finset S1024x8192.Idx) (q : PosShare TreeShare) (f : (main_arg0 : Ref sig .tc).ty.Contents (Elt F)) : sProp 𝕄 :=
  ((c : Thread nD τ).loc main_arg0) ↦[S]{q} f
abbrev wPts (S : Finset S2x128x8192.Idx) (f : (cc0_scratch0 : Ref sig .tc).ty.Contents (Elt F)) : sProp 𝕄 :=
  ((c : Thread nD τ).loc cc0_scratch0) ↦[S]{fullShare} f
abbrev aPts (f : (cc0_scratch1 : Ref sig .tc).ty.Contents (Elt F)) : sProp 𝕄 :=
  ((c : Thread nD τ).loc cc0_scratch1) ↦[(aM).view.set]{fullShare} f
abbrev bPts (f : (cc0_scratch2 : Ref sig .tc).ty.Contents (Elt F)) : sProp 𝕄 :=
  ((c : Thread nD τ).loc cc0_scratch2) ↦[(bM).view.set]{fullShare} f
abbrev oPts (S : Finset S1024x32.Idx) (q : PosShare TreeShare) (f : (cc0_stg0_0 : Ref sig .tc).ty.Contents (Elt F)) : sProp 𝕄 :=
  ((c : Thread nD τ).loc cc0_stg0_0) ↦[S]{q} f
end Pts

/-- The rows of `d` in the result. -/
abbrev rowSet (d : Dev nD) : Finset S1024x32.Idx := (rowsOf d).view.set
/-- The share of its own rows each of a device's three transfers reads. -/
def part : Fin 3 → PosShare TreeShare
  | 0 => fullShare.left
  | 1 => fullShare.right.left
  | 2 => fullShare.right.right

/-- What peer `i`'s signal hands device `c`. -/
def barPay (c : Dev nD) (i : Fin 4) : sProp 𝕄 :=
  match i with
  | 0 => iprop(∃ f, bPts (F := F) (peer 0 c) f)
  | 1 => iprop(∃ f, oPts (F := F) (peer 1 c) (rowSet c) fullShare f)
  | 2 => iprop(∃ f, oPts (F := F) (peer 2 c) (rowSet c) fullShare f)
  | 3 => iprop(∃ f, oPts (F := F) (peer 3 c) (rowSet c) fullShare f)

/-- Slot 0 filled with the first block, slot 1 with the second. -/
def slot0 (c : Dev nD) : sProp 𝕄 :=
  iprop(∃ f, wPts (F := F) c w0.view.set (w0.view.write (Elt F) f ((x0 c).view.read (Elt F) (xV m c)) Finset.univ))
def slot1 (c : Dev nD) : sProp 𝕄 :=
  iprop(∃ f, wPts (F := F) c w1.view.set (w1.view.write (Elt F) f ((x1 c).view.read (Elt F) (xV m c)) Finset.univ))

def payK (c : Dev nD) (k : Fin 11) (d : Fin 4) : sProp 𝕄 :=
  match k with
  | 0 => barPay c d
  | 1 => slot0 m c
  | 2 => slot1 m c
  | 3 => aPts c (candV m c)
  | 4 => bPts c (candV m (peer 0 c))
  | 5 => oPts c (rowSet c) (part 0) (outV m c)
  | 6 => oPts c (rowSet c) (part 1) (outV m c)
  | 7 => oPts c (rowSet c) (part 2) (outV m c)
  | 8 => oPts c (rowSet (peer 1 c)) fullShare (outV m c)
  | 9 => oPts c (rowSet (peer 2 c)) fullShare (outV m c)
  | 10 => oPts c (rowSet (peer 3 c)) fullShare (outV m c)

instance payK_storable (c : Dev nD) (k : Fin 11) (d : Fin 4) : BI.Storable (upEmb : UEmb _ 𝕄) (payK m c k d) := by
  unfold payK
  split
  · unfold barPay; split <;> infer_instance
  · unfold slot0; infer_instance
  · unfold slot1; infer_instance
  all_goals infer_instance

/-! ## The schedule -/

def sched : Rounds.Schedule (GSem nD τ sig) (Fin 4) 𝕄 where
  duties g r := if r = 0 then (decode g.2).elim ∅ dutK else ∅
  amount g _ _ := (decode g.2).elim 1 amtK
  payload g _ d := (decode g.2).elim iprop(emp) fun k => payK m g.1.1 k d
  unitless _ := False
  amount_pos g _ _ _ := by
    cases decode g.2 with
    | none => exact Nat.one_pos
    | some k => exact amtK_pos k

instance sched_storable (g : GSem nD τ sig) (r : ℕ) (d : Fin 4) :
    BI.Storable (upEmb : UEmb _ 𝕄) ((sched (F := F) m).payload g r d) := by
  show BI.Storable upEmb ((decode g.2).elim iprop(emp) fun k => payK m g.1.1 k d)
  cases decode g.2 with
  | none => exact (inferInstance : BI.Storable upEmb (iprop(emp) : sProp 𝕄))
  | some k => exact payK_storable m _ k d

theorem duties_k (c : Dev nD) (k : Fin 11) : (sched (F := F) m).duties (kcell (c, k)) 0 = dutK k := by
  show (if (0 : ℕ) = 0 then (decode (csem k)).elim ∅ dutK else ∅) = _
  rw [if_pos rfl, decode_csem]; rfl
theorem amount_k (c : Dev nD) (k : Fin 11) (d : Fin 4) : (sched (F := F) m).amount (kcell (c, k)) 0 d = amtK k := by
  show (decode (csem k)).elim 1 amtK = _
  rw [decode_csem]; rfl
theorem payload_k (c : Dev nD) (k : Fin 11) (d : Fin 4) : (sched (F := F) m).payload (kcell (c, k)) 0 d = payK m c k d := by
  show ((decode (csem k)).elim iprop(emp) fun k => payK m c k d) = _
  rw [decode_csem]; rfl
theorem duties_later (g : GSem nD τ sig) : ∀ r, 1 ≤ r → (sched (F := F) m).duties g r = ∅ :=
  fun r hr => if_neg (by omega)

theorem expect_bar (c : Dev nD) : (sched (F := F) m).expect (kcell (c, 0)) 0 = 4 := by
  unfold Schedule.expect Schedule.amountOf
  rw [duties_k, Finset.sum_congr rfl fun d _ => amount_k m c 0 d]; rfl
theorem expect_k (c : Dev nD) (k : Fin 11) (hk : k ≠ 0) : (sched (F := F) m).expect (kcell (c, k)) 0 = amtK k := by
  unfold Schedule.expect Schedule.amountOf
  rw [duties_k, Finset.sum_congr rfl fun d _ => amount_k m c k d, dutK, if_neg hk, Finset.sum_singleton]

/-- What a cell's owner gets at its wait. -/
theorem rest_bar (c : Dev nD) :
    bigSep ((sched (F := F) m).duties (kcell (c, 0)) 0 \ ∅) (fun d => (sched (F := F) m).payload (kcell (c, 0)) 0 d)
      = iprop(barPay c 0 ∗ barPay c 1 ∗ barPay c 2 ∗ barPay c 3) := by
  rw [Finset.sdiff_empty, duties_k, bigSep_congr fun d _ => payload_k m c 0 d]
  exact bigSep_univ_eq_bigSepL [(0 : Fin 4), 1, 2, 3] (by decide) (by decide) fun d => payK m c 0 d
theorem rest_k (c : Dev nD) (k : Fin 11) (hk : k ≠ 0) :
    bigSep ((sched (F := F) m).duties (kcell (c, k)) 0 \ ∅) (fun d => (sched (F := F) m).payload (kcell (c, k)) 0 d) = payK m c k 0 := by
  rw [Finset.sdiff_empty, duties_k, dutK, if_neg hk, bigSep_singleton, payload_k]

/-! ## What a device owes, in the reverse of the order it pays -/

def dueK : ℕ → Fin 11
  | 0 => 10 | 1 => 9 | 2 => 8 | 3 => 4 | _ => 0
def dueI : ℕ → Fin 4
  | 0 => 3 | 1 => 2 | 2 => 1 | 3 => 0 | 4 => 3 | 5 => 2 | 6 => 1 | _ => 0
abbrev due (c : Dev nD) (n : ℕ) : GSem nD τ sig := kcell (peer (dueI n) c, dueK n)

def owed (c : Dev nD) : ℕ → CellTallies nD τ sig Unit
  | 0 => 0
  | n + 1 => owed c n + tallyAt (due c n) () (amtK (dueK n))

def L (g : GSem nD τ sig) : Finset Unit := if g.1.2 = .tc then {()} else ∅
def lvK (k : Fin 11) : ℕ := if k = 0 then 1 else if k = 4 then 2 else if 8 ≤ k.val then 3 else 0
def lv (g : GSem nD τ sig) (_ : Unit) : ℕ := (decode g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Fin 11) : lv (kcell (c, k)) () = lvK k := by
  show (decode (csem k)).elim 0 lvK = _
  rw [decode_csem]; rfl

theorem owed_pos {c : Dev nD} {g : GSem nD τ sig} {u : Unit} : ∀ {n : ℕ}, 0 < owed c n g u → ∃ i, i < n ∧ g = due c i
  | 0, h => absurd h (Nat.lt_irrefl 0)
  | n + 1, h => by
    by_cases hg : g = due c n
    · exact ⟨n, Nat.lt_succ_self n, hg⟩
    · unfold owed at h
      rw [Pi.add_apply, Finsupp.add_apply, tallyAt_apply, if_neg (fun h' => hg h'.1)] at h
      obtain ⟨i, hi, e⟩ := owed_pos (n := n) h
      exact ⟨i, Nat.lt_succ_of_lt hi, e⟩

/-- A wait below everything owed is allowed. -/
theorem mayWait_of_lt (c : Dev nD) (sm : SemLoc sig) (n l : ℕ) (hl : lv ((c : Thread nD τ), sm) () = l) (h : ∀ i, i < n → l < lvK (dueK i)) :
    (levAts L lv : sProp 𝕄) ⊢ MayWait (c : Thread nD τ) sm () (owed c n) :=
  MayOwe.of_cut (L := L) (lev := lv) l
    (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact le_of_eq hl)
    (fun g u hg => by obtain ⟨i, hi, rfl⟩ := owed_pos hg; rw [lv_k]; exact h i hi)

theorem mayWait_k (c : Dev nD) (k : Fin 11) (n : ℕ) (h : ∀ i, i < n → lvK k < lvK (dueK i)) :
    (levAts L lv : sProp 𝕄) ⊢ MayWait (c : Thread nD τ) (csem k) () (owed c n) :=
  mayWait_of_lt c (csem k) n (lvK k) (lv_k c k) h

/-! ## The ghost state -/

/-- Every cell's invariant, at some names, and that every cell has reached round 0. -/
def records (K : Dev nD × Fin 11 → ℕ) : sProp 𝕄 :=
  iprop((bigSep Finset.univ fun ck : Dev nD × Fin 11 => cellInv ER (sched m) (K ck) (kcell ck))
    ∗ bigSep Finset.univ fun ck : Dev nD × Fin 11 => reached ER (kcell ck) 0)

instance records_persistent (K : Dev nD × Fin 11 → ℕ) : BI.Persistent (records m K) := by unfold records; infer_instance

theorem inv_at (K : Dev nD × Fin 11 → ℕ) (ck : Dev nD × Fin 11) : records m K ⊢ cellInv ER (sched m) (K ck) (kcell ck) := by
  unfold records
  iintro ⟨H, -⟩
  have h : (bigSep Finset.univ fun ck : Dev nD × Fin 11 => (cellInv ER (sched m) (K ck) (kcell ck) : sProp 𝕄)) ⊢ cellInv ER (sched m) (K ck) (kcell ck) :=
    bigSep_elim (Finset.mem_univ ck)
  iapply h; iexact H
theorem reached_at (K : Dev nD × Fin 11 → ℕ) (ck : Dev nD × Fin 11) : records m K ⊢ (reached ER (kcell ck) 0 : sProp 𝕄) := by
  unfold records
  iintro ⟨-, H⟩
  have h : (bigSep Finset.univ fun ck : Dev nD × Fin 11 => (reached ER (kcell ck) 0 : sProp 𝕄)) ⊢ reached ER (kcell ck) 0 :=
    bigSep_elim (Finset.mem_univ ck)
  iapply h; iexact H

/-- The duties of a device's own cells: the cell, the duty, and the peer that pays it (a device itself for its own sends and loads). -/
def tokK : Fin 14 → Fin 11
  | 0 => 0 | 1 => 0 | 2 => 0 | 3 => 0 | 4 => 1 | 5 => 2 | 6 => 3 | 7 => 4 | 8 => 5 | 9 => 6 | 10 => 7 | 11 => 8 | 12 => 9 | 13 => 10
def tokD : Fin 14 → Fin 4
  | 0 => 0 | 1 => 1 | 2 => 2 | 3 => 3 | _ => 0
def tokP (j : Fin 14) (c : Dev nD) : Dev nD :=
  match j with
  | 0 => peer 0 c | 1 => peer 1 c | 2 => peer 2 c | 3 => peer 3 c | 7 => peer 0 c | 11 => peer 1 c | 12 => peer 2 c | 13 => peer 3 c
  | _ => c

theorem tokP_tokP (j : Fin 14) (c : Dev nD) : tokP j (tokP j c) = c := by revert j c; decide +kernel

/-- A device's duty tokens as minted, and those it pays with. -/
abbrev tok (c : Dev nD) (j : Fin 14) : sProp 𝕄 := dutyTok ER (kcell (c, tokK j)) 0 (tokD j)
def toks (c : Dev nD) : sProp 𝕄 := bigSep Finset.univ fun j : Fin 14 => tok c j
def payToks (c : Dev nD) : sProp 𝕄 := bigSep Finset.univ fun j : Fin 14 => tok (tokP j c) j
abbrev pos (c : Dev nD) (k : Fin 11) : sProp 𝕄 := atPos ER (kcell (c, k)) 0 ∅ 0
def linear (c : Dev nD) : sProp 𝕄 := iprop((bigSep Finset.univ fun k : Fin 11 => pos c k) ∗ payToks c)

theorem bigSep_cells (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_toks (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

end Cert.TopK
-- ==== Proof.Places.lean ====
/-
# Where the pieces lie, and what the loads and stores see there

The two slots of the work buffer, the rows of the result a device computes, and the contents after each copy and store.
-/
module

public import proofs.«01_k».proof.Proof.Proto
public import Idealize.ShloMosaic.Lib.ValueLayout
public import Idealize.ShloMosaic.Lib.ViewIndex

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

abbrev rS (off : Fin 3 → ℕ) (h : ∀ a, off a + S1x128x8192.size a ≤ S2x128x8192.size a) : Rect S2x128x8192 :=
  Rect.unit (s := S2x128x8192) off S1x128x8192.size h
abbrev rS0 : Rect S2x128x8192 := rS ![0, 0, 0] inb_S2x128x8192_S1x128x8192_0_0_0
abbrev rS1 : Rect S2x128x8192 := rS ![1, 0, 0] inb_S2x128x8192_S1x128x8192_1_0_0
abbrev rA0 : Rect S256x32 := Rect.unit (s := S256x32) ![0, 0] S128x32.size inb_S256x32_S128x32_0_0
abbrev rA1 : Rect S256x32 := Rect.unit (s := S256x32) ![128, 0] S128x32.size inb_S256x32_S128x32_128_0
abbrev rAll : Rect S256x32 := Rect.unit (s := S256x32) ![0, 0] S256x32.size inb_S256x32_S256x32_0_0
abbrev rO (c : Dev nD) : Rect S1024x32 := Rect.unit (s := S1024x32) (k0_off2 c) S256x32.size (k0_off2_inb c)

/-! ## The slots -/

theorem work_set (off : Fin 3 → ℕ) (h : ∀ a, off a + S1x128x8192.size a ≤ S2x128x8192.size a) :
    (work off h).view.set = (rS off h).set := by
  show (((View.whole cc0_scratch0).slice (rS off h)).reshape S128x8192 _).set = _
  rw [View.set_reshape, View.set_slice_whole]

theorem w0_w1_disjoint : Disjoint w0.view.set w1.view.set := by
  rw [work_set, work_set, Finset.disjoint_left]
  intro i h0 h1
  have a := (Rect.mem_set_unit.mp h0) 0
  have b := (Rect.mem_set_unit.mp h1) 0
  have a' : (i 0).val < 0 + 1 := a.2
  have b' : 1 ≤ (i 0).val := b.1
  omega

theorem x0_x1_disjoint (c : Dev nD) : Disjoint (x0 c).view.set (x1 c).view.set := by
  rw [show (x0 c).view.set = (Rect.unit (s := S1024x8192) (k0_off1 c 0#32) S128x8192.size (k0_off1_inb c 0)).set from View.set_slice_whole _ _,
    show (x1 c).view.set = (Rect.unit (s := S1024x8192) (k0_off1 c 128#32) S128x8192.size (k0_off1_inb c 1)).set from View.set_slice_whole _ _,
    Finset.disjoint_left]
  intro i h0 h1
  have a := ((Rect.mem_set_unit.mp h0) 0).2
  have b := ((Rect.mem_set_unit.mp h1) 0).1
  have a' : (i 0).val < (512 * (c.val / 4) + 256 * ((c.val / 2) % 2) + 128 * 0) + 128 := by
    have := congrFun (k0_off1_eq c 0) 0
    exact lt_of_lt_of_eq a (congrArg (· + 128) this)
  have b' : (512 * (c.val / 4) + 256 * ((c.val / 2) % 2) + 128 * 1) ≤ (i 0).val := by
    have := congrFun (k0_off1_eq c 1) 0
    exact le_of_eq_of_le this.symm b
  omega

theorem load_work (off : Fin 3 → ℕ) (h : ∀ a, off a + S1x128x8192.size a ≤ S2x128x8192.size a)
    (f : (cc0_scratch0 : Ref sig .tc).ty.Contents (Elt F)) (w : S128x8192.Idx → Elt F .f32) :
    ((wM : Memref sig .tc .vmem S2x128x8192 .f32).access (rS off h)).read (Elt F) ((work off h).view.write (Elt F) f w Finset.univ)
      = fun i : S1x128x8192.Idx => w (ix2 (i 1) (i 2)) := by
  funext i
  have hi : i = Shape.reshapeEquiv (squeezes_S1x128x8192_S128x8192).numel_eq (ix2 (n0 := 128) (n1 := 8192) (i 1) (i 2)) := by
    refine Eq.trans ?_ (ValueIdx.reshapeEquiv_ix2_1ab (squeezes_S1x128x8192_S128x8192).numel_eq (i 1) (i 2)).symm
    funext a
    match a with
    | ⟨0, _⟩ => exact Fin.ext (by have : (i 0).val < 1 := (i 0).isLt; show (i 0).val = 0; omega)
    | ⟨1, _⟩ => rfl
    | ⟨2, _⟩ => rfl
  conv_lhs => rw [hi]
  exact View.read_write_reshape _ _ _ _ _

/-! ## The candidates -/

theorem store_cand (c : Dev nD) (f : (cc0_scratch1 : Ref sig .tc).ty.Contents (Elt F)) :
    ((aM : Memref sig .tc .vmem S256x32 .f32).access rA1).write (Elt F)
        (((aM : Memref sig .tc .vmem S256x32 .f32).access rA0).write (Elt F) f (chunkOut (chunk0 m c)) Finset.univ)
        (chunkOut (chunk1 m c)) Finset.univ = candV m c := by
  funext i
  have hi : (i 0).val < 256 := (i 0).isLt
  unfold candV
  by_cases h : (i 0).val < 128
  · rw [View.write_of_not_mem]
    · have e : i = ((aM : Memref sig .tc .vmem S256x32 .f32).access rA0).emb (ix2 (n0 := 128) (n1 := 32) ⟨(i 0).val, h⟩ (i 1)) := by
        funext a
        match a with
        | ⟨0, _⟩ => exact Fin.ext (by show (i 0).val = 0 + 1 * (i 0).val; omega)
        | ⟨1, _⟩ => exact Fin.ext (by show (i 1).val = 0 + 1 * (i 1).val; omega)
      conv_lhs => rw [e]
      rw [View.write_emb_of_mem _ _ (Finset.mem_univ _), dif_pos h]; rfl
    · rw [View.setOn_univ]
      intro hm
      rw [show (((aM : Memref sig .tc .vmem S256x32 .f32).access rA1).set = rA1.set) from View.set_slice_whole _ _] at hm
      have : 128 ≤ (i 0).val := ((Rect.mem_set_unit.mp hm) 0).1
      omega
  · have e : i = ((aM : Memref sig .tc .vmem S256x32 .f32).access rA1).emb (ix2 (n0 := 128) (n1 := 32) ⟨(i 0).val - 128, by omega⟩ (i 1)) := by
      funext a
      match a with
      | ⟨0, _⟩ => exact Fin.ext (by show (i 0).val = 128 + 1 * ((i 0).val - 128); omega)
      | ⟨1, _⟩ => exact Fin.ext (by show (i 1).val = 0 + 1 * (i 1).val; omega)
    conv_lhs => rw [e]
    rw [View.write_emb_of_mem _ _ (Finset.mem_univ _), dif_neg h]; rfl

theorem hz2 : (![0, 0] : Fin 2 → ℕ) = fun _ => 0 := funext fun a => by fin_cases a <;> rfl

theorem load_cand (f : (cc0_scratch1 : Ref sig .tc).ty.Contents (Elt F)) :
    (aM : Memref sig .tc .vmem S256x32 .f32).view.readAt (Elt F) rAll.toLoadRect f = f :=
  Memref.readAt_unit_zero (Elt F) cc0_scratch1 hz2 _ f
theorem load_peer (f : (cc0_scratch2 : Ref sig .tc).ty.Contents (Elt F)) :
    (bM : Memref sig .tc .vmem S256x32 .f32).view.readAt (Elt F) rAll.toLoadRect f = f :=
  Memref.readAt_unit_zero (Elt F) cc0_scratch2 hz2 _ f

theorem copy_cand (f : (cc0_scratch2 : Ref sig .tc).ty.Contents (Elt F)) (g : (cc0_scratch1 : Ref sig .tc).ty.Contents (Elt F)) :
    (bM : Memref sig .tc .vmem S256x32 .f32).view.write (Elt F) f ((aM : Memref sig .tc .vmem S256x32 .f32).view.read (Elt F) g) Finset.univ = g := by
  show (View.whole cc0_scratch2).write (Elt F) f ((View.whole cc0_scratch1).read (Elt F) g) Finset.univ = g
  rw [View.read_whole]
  exact View.write_whole_univ _ _ _

/-! ## The rows of the result -/

theorem mem_rowSet (d : Dev nD) (i : S1024x32.Idx) : i ∈ rowSet d ↔ (i 0).val / 256 = d.val / 2 := by
  have hd : d.val < 8 := d.isLt
  have hi1 : (i 1).val < 32 := (i 1).isLt
  unfold rowSet
  rw [show (rowsOf d).view.set = (Rect.unit (s := S1024x32) (k0_off3 d) S256x32.size (k0_off3_inb d)).set from View.set_slice_whole _ _,
    Rect.mem_set_unit, Fin.forall_fin_two, k0_off3_eq d]
  show ((512 * (d.val / 4) + 256 * ((d.val / 2) % 2) ≤ (i 0).val ∧ (i 0).val < 512 * (d.val / 4) + 256 * ((d.val / 2) % 2) + 256)
    ∧ (0 ≤ (i 1).val ∧ (i 1).val < 0 + 32)) ↔ _
  omega

theorem mem_rowSet' (d : Dev nD) (i : S1024x32.Idx) : i ∈ rowSet d ↔ (i 0).val / 256 = (quadOf d).val := mem_rowSet d i

theorem rowSet_disjoint {a b : Dev nD} (h : quadOf a ≠ quadOf b) : Disjoint (rowSet a) (rowSet b) := by
  rw [Finset.disjoint_left]
  intro i ha hb
  exact h (Fin.ext (((mem_rowSet' a i).mp ha).symm.trans ((mem_rowSet' b i).mp hb)))

theorem rO_set (c : Dev nD) : ((oM : Memref sig .tc .vmem S1024x32 .f32).access (rO c)).set = rowSet c := by
  rw [show ((oM : Memref sig .tc .vmem S1024x32 .f32).access (rO c)).set = (rO c).set from View.set_slice_whole _ _,
    rowSet, show (rowsOf c).view.set = (Rect.unit (s := S1024x32) (k0_off3 c) S256x32.size (k0_off3_inb c)).set from View.set_slice_whole _ _]
  ext i
  rw [Rect.mem_set_unit, Rect.mem_set_unit, k0_off2_eq, k0_off3_eq]

/-- On a device's own rows, what it stores is the result there. -/
theorem store_own (c : Dev nD) (f : (cc0_stg0_0 : Ref sig .tc).ty.Contents (Elt F)) (i : S1024x32.Idx) (hi : i ∈ rowSet c) :
    ((oM : Memref sig .tc .vmem S1024x32 .f32).access (rO c)).write (Elt F) f (lastTop (candV m c) (candV m (peer 0 c))) Finset.univ i = outV m c i := by
  have hq := (mem_rowSet c i).mp hi
  have hc : c.val < 8 := c.isLt
  have h0 : (i 0).val < 1024 := (i 0).isLt
  have e : i = ((oM : Memref sig .tc .vmem S1024x32 .f32).access (rO c)).emb
      (ix2 (n0 := 256) (n1 := 32) ⟨(i 0).val % 256, Nat.mod_lt _ (by decide)⟩ (i 1)) := by
    funext a
    match a with
    | ⟨0, _⟩ => exact Fin.ext (by
        show (i 0).val = k0_off2 c 0 + 1 * ((i 0).val % 256)
        rw [k0_off2_eq]; show (i 0).val = (512 * (c.val / 4) + 256 * ((c.val / 2) % 2)) + 1 * ((i 0).val % 256); omega)
    | ⟨1, _⟩ => exact Fin.ext (by
        show (i 1).val = k0_off2 c 1 + 1 * (i 1).val
        rw [k0_off2_eq]; show (i 1).val = 0 + 1 * (i 1).val; omega)
  have hquad : quad c ⟨(i 0).val / 256, by omega⟩ = c := Fin.ext (by show 2 * ((i 0).val / 256) + c.val % 2 = c.val; omega)
  conv_lhs => rw [e]
  rw [View.write_emb_of_mem _ _ (Finset.mem_univ _)]
  unfold outV
  rw [hquad]; rfl

/-- A copy of the rows of `d` from one device to another writes what the source holds there. -/
theorem copy_rows (d : Dev nD) (f g : (cc0_stg0_0 : Ref sig .tc).ty.Contents (Elt F)) (i : S1024x32.Idx) (hi : i ∈ rowSet d) :
    (rowsOf d).view.write (Elt F) f ((rowsOf d).view.read (Elt F) g) Finset.univ i = g i := by
  rw [View.write_read_eq_piecewise, View.setOn_univ]
  exact Finset.piecewise_eq_of_mem _ _ _ hi

end Cert.TopK
-- ==== Proof.Steps.lean ====
/-
# The body's steps at this kernel's cells

One rule per kind of operation: a signal on a peer's barrier, a wait on one of a device's own cells (which then closes), a local
copy, and a transfer to a peer.
-/
module

public import proofs.«01_k».proof.Proof.Places

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

variable (K : Dev nD × Fin 11 → ℕ) {α : Type}

/-- The rest of a program on a device's core. -/
abbrev runs (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A signal on peer `i`'s barrier. -/
theorem signal_k (c : Dev nD) (i : Fin 4) (j : ℕ) (hO : owed c (j + 1) = owed c j + tallyAt (kcell (peer i c, 0)) () 1)
    {k' : ℕ} (hk' : k' = 1) {k : PUnit → Prog (TpuEff nD τ sig (Elt F) Λ₀ .tc) α} {Q : α → sProp 𝕄} {W : Waits sig Unit} :
    iprop(records m K ∗ owes (c : Thread nD τ) (owed c (j + 1)) W ∗ dutyTok ER (kcell (peer i c, 0)) 0 i ∗ barPay (peer i c) i)
      ⊢ iprop((owes (c : Thread nD τ) (owed c j) W -∗ runs c (k ⟨⟩) Q)
          -∗ runs c (.op (.semSignal (peer i c : Thread nD τ) barS k') k) Q) := by
  subst hk'
  have hd : i ∈ (sched (F := F) m).duties (kcell (peer i c, 0)) 0 := by rw [duties_k]; exact Finset.mem_univ _
  iintro ⟨#HR, HO, Ht, Hp⟩ Hk
  iapply (Rounds.wp_signal 𝒱₀ ER (sched m) (c : Thread nD τ) none (dst := (peer i c : Thread nD τ)) (κ := K (peer i c, 0))
    (d := i) (r := 0) hd (amount_k m (peer i c) 0 i) () (owed c j) hO) $$ [HO Ht Hp]
  · isplitr; · iapply (inv_at m K (peer i c, 0)); iexact HR
    isplitl [HO]; · iexact HO
    isplitl [Ht]; · iexact Ht
    isplitl [Hp]; · iapply (Entails.of_eq ((payload_k m (peer i c) 0 i).trans (show payK m (peer i c) 0 i = barPay (peer i c) i from rfl)).symm); iexact Hp
    iapply (reached_at m K (peer i c, 0)); iexact HR
  iexact Hk

/-- A wait for the whole of a cell's round, owing the first `n` dues; the cell closes. -/
theorem wait_cell (c : Dev nD) (k : Fin 11) (n : ℕ) (hlt : ∀ i, i < n → lvK k < lvK (dueK i)) {w : TpuEff nD τ sig (Elt F) Λ₀ .tc PUnit} {k' : ℕ}
    (hw : ∀ P : PUnit → sProp 𝕄, wpE (defs₀ (F := F)) 𝒱₀ (c : Thread nD τ) none Set.univ w P = waitSpec (c : Thread nD τ) Set.univ (csem k) k' P)
    (hk' : k' = (sched (F := F) m).expect (kcell (c, k)) 0) {q : PUnit → Prog (TpuEff nD τ sig (Elt F) Λ₀ .tc) α} {Q : α → sProp 𝕄} {W : Waits sig Unit} {P : sProp 𝕄}
    (hP : bigSep ((sched (F := F) m).duties (kcell (c, k)) 0 \ ∅) (fun d => (sched (F := F) m).payload (kcell (c, k)) 0 d) = P) :
    iprop(records m K ∗ levAts L lv ∗ cred (tallyAt (kcell (c, k)) () k') ∗ owes (c : Thread nD τ) (owed c n) W ∗ pos c k)
      ⊢ iprop(((owes (c : Thread nD τ) (owed c n) (insert (csem k, ()) W) ∗ semVal (kcell (c, k)) 0 ∗ P) -∗ runs c (q ⟨⟩) Q)
          -∗ runs c (.op w q) Q) := by
  subst hP
  iintro ⟨#HR, #Hlev, Hc, HO, Hat⟩ Hk
  iapply (Rounds.wp_wait_rest_token 𝒱₀ ER (sched m) (c : Thread nD τ) none (κ := K (c, k)) (sm := csem k)
      hw (Set.mem_univ _) () (O := owed c n) (W := W) (R := 0) (m := 0) (T := ∅)
      (by rw [Nat.zero_add]; exact hk')) $$ [Hc HO Hat]
  · isplitr; · iapply (inv_at m K (c, k)); iexact HR
    isplitl [Hc]; · iexact Hc
    isplitl [HO]; · iexact HO
    isplitr; · iapply (mayWait_k c k n hlt); iexact Hlev
    iexact Hat
  iintro ⟨HO, Hat, -, Hp⟩
  imod (Rounds.cell_close ER (sched m) (Set.mem_univ (K (c, k))) (fun h => h) (R := 0 + 1) (duties_later m (kcell (c, k)))) $$ [Hat] with Hz
  · isplitr; · iapply (inv_at m K (c, k)); iexact HR
    iexact Hat
  iapply Hk
  isplitl [HO]; · iexact HO
  isplitl [Hz]; · iexact Hz
  iexact Hp

/-- A wait on one of the copies' cells. -/
theorem wait_k (c : Dev nD) (k : Fin 11) (hk0 : k ≠ 0) (n : ℕ) (hlt : ∀ i, i < n → lvK k < lvK (dueK i)) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem k) (amtK k) P)
    {q : PUnit → Prog (TpuEff nD τ sig (Elt F) Λ₀ .tc) α} {Q : α → sProp 𝕄} {W : Waits sig Unit} :
    iprop(records m K ∗ levAts L lv ∗ cred (tallyAt (kcell (c, k)) () (amtK k)) ∗ owes (c : Thread nD τ) (owed c n) W ∗ pos c k)
      ⊢ iprop(((owes (c : Thread nD τ) (owed c n) (insert (csem k, ()) W) ∗ semVal (kcell (c, k)) 0 ∗ payK m c k 0) -∗ runs c (q ⟨⟩) Q)
          -∗ runs c (.op w q) Q) :=
  wait_cell m K c k n hlt hw (expect_k m c k hk0).symm (rest_k m c k hk0)

/-- The same, at the operation. -/
theorem wait_dma (c : Dev nD) (k : Fin 11) (hk0 : k ≠ 0) (n : ℕ) (hlt : ∀ i, i < n → lvK k < lvK (dueK i))
    {sp sp' : Space} {s s' : Shape} {e e' : EltTy} {sem : DmaSem sig} {src : Memref sig (c : Thread nD τ).2.kind sp' s' e'} {κ' : Kind} {dst : Memref sig κ' sp s e}
    {hsrc : src.view.WordExact} {hdst : dst.view.WordExact} (hs : SemLoc.dma sem = csem k) (ha : dst.view.dmaCredit = amtK k)
    {q : PUnit → Prog (TpuEff nD τ sig (Elt F) Λ₀ .tc) α} {Q : α → sProp 𝕄} {W : Waits sig Unit} :
    iprop(records m K ∗ levAts L lv ∗ cred (tallyAt (kcell (c, k)) () (amtK k)) ∗ owes (c : Thread nD τ) (owed c n) W ∗ pos c k)
      ⊢ iprop(((owes (c : Thread nD τ) (owed c n) (insert (csem k, ()) W) ∗ semVal (kcell (c, k)) 0 ∗ payK m c k 0) -∗ runs c (q ⟨⟩) Q)
          -∗ runs c (.op (.waitDma2 sem src dst hsrc hdst) q) Q) :=
  wait_k m K c k hk0 n hlt fun P => by rw [wpE_waitDma2_eq, hs, ha]

/-- A local copy crediting one of a device's own cells. -/
theorem copy_k (c : Dev nD) (k : Fin 11) (hk0 : k ≠ 0) {sp sp' : Space} {s : Shape} {e : EltTy} {src : Memref sig (c : Thread nD τ).2.kind sp s e} {dst : Memref sig (c : Thread nD τ).2.kind sp' s e}
    {hsrc : src.view.WordExact} {hdst : dst.view.WordExact} {hsem : DmaTarget.Typed (nD := nD) sp (csem k) (.here dst)}
    {q : PUnit → Prog (TpuEff nD τ sig (Elt F) Λ₀ .tc) α} {Q : α → sProp 𝕄} {sh : PosShare TreeShare} {fs : Buf (Elt F) (src.view.loc (c : Thread nD τ))}
    {fd : Buf (Elt F) (dst.view.loc (c : Thread nD τ))} (hN : dst.view.amount (csem k) = amtK k)
    (hpay : iprop((dst.view.loc (c : Thread nD τ) ↦[dst.view.set]{fullShare} (dst.view.write (Elt F) fd (src.view.read (Elt F) fs) Finset.univ))
              ∗ (src.view.loc (c : Thread nD τ) ↦[src.view.set]{sh} fs)) ⊢ payK m c k 0) :
    iprop(records m K ∗ (src.view.loc (c : Thread nD τ) ↦[src.view.set]{sh} fs) ∗ (dst.view.loc (c : Thread nD τ) ↦[dst.view.set]{fullShare} fd)
        ∗ dutyTok ER (kcell (c, k)) 0 0)
      ⊢ iprop((cred (tallyAt (kcell (c, k)) () (amtK k)) -∗ runs c (q ⟨⟩) Q)
          -∗ runs c (.op (.enqueueDma src (.here dst) (csem k) hsrc hdst hsem) q) Q) := by
  have hd : (0 : Fin 4) ∈ (sched (F := F) m).duties (kcell (c, k)) 0 := by rw [duties_k]; exact mem_dutK k
  iintro ⟨#HR, Hs, Hd, Ht⟩ Hk
  iapply (Rounds.wp_copy_pointsTo 𝒱₀ ER (sched m) (c : Thread nD τ) none (κ := K (c, k)) (sem := csem k) (r := 0) (d := 0) (q := sh) (fs := fs) (fd := fd)
    hd () (amtK k) hN (amount_k m c k 0) (hpay.trans (Entails.of_eq (payload_k m c k 0).symm))) $$ [Hs Hd Ht]
  · isplitr; · iapply (inv_at m K (c, k)); iexact HR
    isplitl [Hs]; · iexact Hs
    isplitl [Hd]; · iexact Hd
    isplitl [Ht]; · iexact Ht
    iapply (reached_at m K (c, k)); iexact HR
  iexact Hk

/-- A transfer to device `p`, crediting cell `ks` here and cell `kr` there. -/
theorem send_k (c p : Dev nD) (ks kr : Fin 11) (n : ℕ) (hO : owed c (n + 1) = owed c n + tallyAt (kcell (p, kr)) () (amtK kr))
    (hsr : amtK ks = amtK kr) {sp sp' : Space} {s : Shape} {e : EltTy} {src : Memref sig (c : Thread nD τ).2.kind sp s e} {dst : Memref sig (p : Thread nD τ).2.kind sp' s e}
    {hsc : dst.view.ref.isScScratch = false}
    {hsrc : src.view.WordExact} {hdst : dst.view.WordExact} {hsem : DmaTarget.Typed sp (csem kr) (.remote (p : Thread nD τ) dst (csem ks) hsc)}
    {q : PUnit → Prog (TpuEff nD τ sig (Elt F) Λ₀ .tc) α} {Q : α → sProp 𝕄} {sh : PosShare TreeShare} {fs : Buf (Elt F) (src.view.loc (c : Thread nD τ))}
    {fd : Buf (Elt F) (dst.view.loc (p : Thread nD τ))} {W : Waits sig Unit} (hN : dst.view.amount (csem kr) = amtK kr)
    (hpay₁ : (src.view.loc (c : Thread nD τ) ↦[src.view.set]{sh} fs) ⊢ payK m c ks 0)
    (hpay₂ : (dst.view.loc (p : Thread nD τ) ↦[dst.view.set]{fullShare} (dst.view.write (Elt F) fd (src.view.read (Elt F) fs) Finset.univ))
      ⊢ payK m p kr 0) :
    iprop(records m K ∗ (src.view.loc (c : Thread nD τ) ↦[src.view.set]{sh} fs) ∗ (dst.view.loc (p : Thread nD τ) ↦[dst.view.set]{fullShare} fd)
        ∗ owes (c : Thread nD τ) (owed c (n + 1)) W ∗ dutyTok ER (kcell (c, ks)) 0 0 ∗ dutyTok ER (kcell (p, kr)) 0 0)
      ⊢ iprop(((cred (tallyAt (kcell (c, ks)) () (amtK ks)) ∗ owes (c : Thread nD τ) (owed c n) W) -∗ runs c (q ⟨⟩) Q)
          -∗ runs c (.op (.enqueueDma src (.remote (p : Thread nD τ) dst (csem ks) hsc) (csem kr) hsrc hdst hsem) q) Q) := by
  rw [hsr]
  have hd₁ : (0 : Fin 4) ∈ (sched (F := F) m).duties (kcell (c, ks)) 0 := by rw [duties_k]; exact mem_dutK ks
  have hd₂ : (0 : Fin 4) ∈ (sched (F := F) m).duties (kcell (p, kr)) 0 := by rw [duties_k]; exact mem_dutK kr
  iintro ⟨#HR, Hs, Hd, HO, Ht₁, Ht₂⟩ Hk
  iapply (Rounds.wp_send_pointsTo 𝒱₀ ER (sched m) (c : Thread nD τ) none (κ₁ := K (c, ks)) (κ₂ := K (p, kr)) (c' := (p : Thread nD τ))
    (r₁ := 0) (r₂ := 0) (d₁ := 0) (d₂ := 0) (q := sh) (fs := fs) (fd := fd) (sS := csem ks) (sem := csem kr)
    hd₁ hd₂ () () (amtK kr) hN ((amount_k m c ks 0).trans hsr) (amount_k m p kr 0) (owed c n) hO (W := W)
    (hpay₁.trans (Entails.of_eq (payload_k m c ks 0).symm)) (hpay₂.trans (Entails.of_eq (payload_k m p kr 0).symm))) $$ [Hs Hd HO Ht₁ Ht₂]
  · isplitr; · iapply (inv_at m K (c, ks)); iexact HR
    isplitr; · iapply (inv_at m K (p, kr)); iexact HR
    isplitl [Hs]; · iexact Hs
    isplitl [Hd]; · iexact Hd
    isplitl [HO]; · iexact HO
    isplitl [Ht₁]; · iexact Ht₁
    isplitr; · iapply (reached_at m K (c, ks)); iexact HR
    isplitl [Ht₂]; · iexact Ht₂
    iapply (reached_at m K (p, kr)); iexact HR
  iexact Hk

/-- The same, the device named by another term. -/
theorem send_at (c p : Dev nD) {d : Dev nD} (hp : d = p) (ks kr : Fin 11) (n : ℕ) (hO : owed c (n + 1) = owed c n + tallyAt (kcell (p, kr)) () (amtK kr))
    (hsr : amtK ks = amtK kr) {sp sp' : Space} {s : Shape} {e : EltTy} {src : Memref sig (c : Thread nD τ).2.kind sp s e} {dst : Memref sig .tc sp' s e}
    {hsc : dst.view.ref.isScScratch = false}
    {hsrc : src.view.WordExact} {hdst : dst.view.WordExact} {hsem : DmaTarget.Typed sp (csem kr) (.remote (d : Thread nD τ) dst (csem ks) hsc)}
    {q : PUnit → Prog (TpuEff nD τ sig (Elt F) Λ₀ .tc) α} {Q : α → sProp 𝕄} {sh : PosShare TreeShare} {fs : Buf (Elt F) (src.view.loc (c : Thread nD τ))}
    {fd : Buf (Elt F) (dst.view.loc (p : Thread nD τ))} {W : Waits sig Unit} (hN : dst.view.amount (csem kr) = amtK kr)
    (hpay₁ : (src.view.loc (c : Thread nD τ) ↦[src.view.set]{sh} fs) ⊢ payK m c ks 0)
    (hpay₂ : (dst.view.loc (p : Thread nD τ) ↦[dst.view.set]{fullShare} (dst.view.write (Elt F) fd (src.view.read (Elt F) fs) Finset.univ))
      ⊢ payK m p kr 0) :
    iprop(records m K ∗ (src.view.loc (c : Thread nD τ) ↦[src.view.set]{sh} fs) ∗ (dst.view.loc (p : Thread nD τ) ↦[dst.view.set]{fullShare} fd)
        ∗ owes (c : Thread nD τ) (owed c (n + 1)) W ∗ dutyTok ER (kcell (c, ks)) 0 0 ∗ dutyTok ER (kcell (p, kr)) 0 0)
      ⊢ iprop(((cred (tallyAt (kcell (c, ks)) () (amtK ks)) ∗ owes (c : Thread nD τ) (owed c n) W) -∗ runs c (q ⟨⟩) Q)
          -∗ runs c (.op (.enqueueDma src (.remote (d : Thread nD τ) dst (csem ks) hsc) (csem kr) hsrc hdst hsem) q) Q) := by
  subst hp
  exact send_k m K c d ks kr n hO hsr hN hpay₁ hpay₂

end Cert.TopK
-- ==== Proof.Run.lean ====
/-
# The body, run

On any device, from what the launch hands it, the body ends with the whole result in the result's buffer and every cell closed.
-/
module

public import proofs.«01_k».proof.Proof.Steps
public import proofs.«01_k».proof.Proof.Gen.KernelIdeal.Points

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Splitting and joining the buffers -/

theorem rows_cover (c : Dev nD) :
    (Finset.univ : Finset S1024x32.Idx) = rowSet c ∪ (rowSet (peer 1 c) ∪ (rowSet (peer 2 c) ∪ rowSet (peer 3 c))) := by
  refine (Finset.eq_univ_of_forall fun i => ?_).symm
  have h0 : (i 0).val < 1024 := (i 0).isLt
  simp only [Finset.mem_union, mem_rowSet']
  rcases peer_cover c ⟨(i 0).val / 256, by omega⟩ with h | h | h | h
  · exact .inl (congrArg Fin.val h)
  · exact .inr (.inl (congrArg Fin.val h))
  · exact .inr (.inr (.inl (congrArg Fin.val h)))
  · exact .inr (.inr (.inr (congrArg Fin.val h)))

theorem rows_split (c : Dev nD) (f : (cc0_stg0_0 : Ref sig .tc).ty.Contents (Elt F)) :
    oPts c Finset.univ fullShare f ⊣⊢ iprop(oPts c (rowSet c) fullShare f ∗ oPts c (rowSet (peer 1 c)) fullShare f
      ∗ oPts c (rowSet (peer 2 c)) fullShare f ∗ oPts c (rowSet (peer 3 c)) fullShare f) := by
  have d23 : Disjoint (rowSet (peer 2 c)) (rowSet (peer 3 c)) := rowSet_disjoint (quadOf_peer_inj 2 3 (by decide) (by decide) (by decide) c).1
  have d1 : Disjoint (rowSet (peer 1 c)) (rowSet (peer 2 c) ∪ rowSet (peer 3 c)) := Finset.disjoint_union_right.mpr
    ⟨rowSet_disjoint (quadOf_peer_inj 1 2 (by decide) (by decide) (by decide) c).1,
      rowSet_disjoint (quadOf_peer_inj 1 3 (by decide) (by decide) (by decide) c).1⟩
  have d0 : Disjoint (rowSet c) (rowSet (peer 1 c) ∪ (rowSet (peer 2 c) ∪ rowSet (peer 3 c))) := Finset.disjoint_union_right.mpr
    ⟨rowSet_disjoint (quadOf_peer_inj 1 2 (by decide) (by decide) (by decide) c).2.symm, Finset.disjoint_union_right.mpr
      ⟨rowSet_disjoint (quadOf_peer_inj 2 3 (by decide) (by decide) (by decide) c).2.symm,
        rowSet_disjoint (quadOf_peer_inj 3 2 (by decide) (by decide) (by decide) c).2.symm⟩⟩
  rw [rows_cover c]
  refine ⟨(pointsTo_union d0).1.trans (sep_mono_right ((pointsTo_union d1).1.trans (sep_mono_right (pointsTo_union d23).1))),
    BI.Entails.trans (sep_mono_right ((sep_mono_right (pointsTo_union d23).2).trans (pointsTo_union d1).2)) (pointsTo_union d0).2⟩

theorem slots_cover : (Finset.univ : Finset S2x128x8192.Idx) = w0.view.set ∪ w1.view.set := by
  refine (Finset.eq_univ_of_forall fun i => ?_).symm
  have h0 : (i 0).val < 2 := (i 0).isLt
  have h1 : (i 1).val < 128 := (i 1).isLt
  have h2 : (i 2).val < 8192 := (i 2).isLt
  rw [Finset.mem_union, work_set, work_set, Rect.mem_set_unit, Rect.mem_set_unit]
  by_cases h : (i 0).val = 0
  · refine .inl fun a => ?_
    match a with
    | ⟨0, _⟩ => exact ⟨Nat.zero_le _, by show (i 0).val < 0 + 1; omega⟩
    | ⟨1, _⟩ => exact ⟨Nat.zero_le _, by show (i 1).val < 0 + 128; omega⟩
    | ⟨2, _⟩ => exact ⟨Nat.zero_le _, by show (i 2).val < 0 + 8192; omega⟩
  · refine .inr fun a => ?_
    match a with
    | ⟨0, _⟩ => exact ⟨by show 1 ≤ (i 0).val; omega, by show (i 0).val < 1 + 1; omega⟩
    | ⟨1, _⟩ => exact ⟨Nat.zero_le _, by show (i 1).val < 0 + 128; omega⟩
    | ⟨2, _⟩ => exact ⟨Nat.zero_le _, by show (i 2).val < 0 + 8192; omega⟩

theorem slots_split (c : Dev nD) (f : (cc0_scratch0 : Ref sig .tc).ty.Contents (Elt F)) :
    wPts c Finset.univ f ⊢ iprop(wPts c w0.view.set f ∗ wPts c w1.view.set f) := by
  rw [slots_cover]; exact (pointsTo_union w0_w1_disjoint).1

theorem slots_join (c : Dev nD) (f g : (cc0_scratch0 : Ref sig .tc).ty.Contents (Elt F)) :
    iprop(wPts c w0.view.set f ∗ wPts c w1.view.set g) ⊢ iprop(∃ h, wPts (F := F) c Finset.univ h) := by
  rw [slots_cover]
  iintro H
  iexists _
  iapply (pointsTo_join w0_w1_disjoint); iexact H

theorem arg_split (c : Dev nD) (q : PosShare TreeShare) :
    xPts c Finset.univ q (xV m c) ⊢ iprop(xPts c (x0 c).view.set q (xV m c) ∗ xPts c (x1 c).view.set q (xV m c)) :=
  ((pointsTo_split_subset (Finset.subset_univ ((x0 c).view.set ∪ (x1 c).view.set))).1.trans sep_elim_left).trans
    (pointsTo_union (x0_x1_disjoint c)).1

theorem parts_split (c : Dev nD) (S : Finset S1024x32.Idx) (f : (cc0_stg0_0 : Ref sig .tc).ty.Contents (Elt F)) :
    oPts c S fullShare f ⊣⊢ iprop(oPts c S (part 0) f ∗ oPts c S (part 1) f ∗ oPts c S (part 2) f) :=
  ⟨(pointsTo_share (PosShare.mem_left_op_right fullShare)).1.trans (sep_mono_right (pointsTo_share (PosShare.mem_left_op_right fullShare.right)).1),
    BI.Entails.trans (sep_mono_right (pointsTo_share (PosShare.mem_left_op_right fullShare.right)).2) (pointsTo_share (PosShare.mem_left_op_right fullShare)).2⟩

theorem land_rows (i : Fin 4) (hi : i ≠ 0) (c : Dev nD) (f : (cc0_stg0_0 : Ref sig .tc).ty.Contents (Elt F)) :
    oPts (peer i c) (rowSet c) fullShare ((rowsOf c).view.write (Elt F) f ((rowsOf c).view.read (Elt F) (outV m c)) Finset.univ)
      ⊢ oPts (peer i c) (rowSet (peer i (peer i c))) fullShare (outV m (peer i c)) := by
  rw [peer_peer, outV_peer m i hi]
  exact Entails.of_eq (pointsTo_congr fun j hj => copy_rows c f (outV m c) j hj)

theorem load0 (c : Dev nD) (f : (cc0_scratch0 : Ref sig .tc).ty.Contents (Elt F)) :
    ((wM : Memref sig .tc .vmem S2x128x8192 .f32).access rS0).read (Elt F) (w0.view.write (Elt F) f ((x0 c).view.read (Elt F) (xV m c)) Finset.univ)
      = chunk0 m c := load_work _ _ f _
theorem load1 (c : Dev nD) (f : (cc0_scratch0 : Ref sig .tc).ty.Contents (Elt F)) :
    ((wM : Memref sig .tc .vmem S2x128x8192 .f32).access rS1).read (Elt F) (w1.view.write (Elt F) f ((x1 c).view.read (Elt F) (xV m c)) Finset.univ)
      = chunk1 m c := load_work _ _ f _

theorem slot_mem0 : ((wM : Memref sig .tc .vmem S2x128x8192 .f32).access rS0).set ⊆ w0.view.set := by
  rw [work_set, show ((wM : Memref sig .tc .vmem S2x128x8192 .f32).access rS0).set = rS0.set from View.set_slice_whole _ _]
theorem slot0_pay (c : Dev nD) (f : (cc0_scratch0 : Ref sig .tc).ty.Contents (Elt F)) :
    iprop(((w0 : Memref sig .tc .vmem S128x8192 .f32).view.loc (c : Thread nD τ) ↦[w0.view.set]{fullShare} (w0.view.write (Elt F) f ((x0 c).view.read (Elt F) (xV m c)) Finset.univ))
      ∗ ((x0 c).view.loc (c : Thread nD τ) ↦[(x0 c).view.set]{fullShare.left} (xV m c))) ⊢ payK m c 1 0 := by
  rw [show payK m c 1 0 = slot0 m c from rfl]
  unfold slot0
  iintro ⟨H, -⟩
  iexists f; iexact H
theorem pay_slot0 (c : Dev nD) : payK m c 1 0 ⊢ iprop(∃ f, wPts c w0.view.set (w0.view.write (Elt F) f ((x0 c).view.read (Elt F) (xV m c)) Finset.univ)) := BI.Entails.refl _
theorem slot_mem1 : ((wM : Memref sig .tc .vmem S2x128x8192 .f32).access rS1).set ⊆ w1.view.set := by
  rw [work_set, show ((wM : Memref sig .tc .vmem S2x128x8192 .f32).access rS1).set = rS1.set from View.set_slice_whole _ _]
theorem slot1_pay (c : Dev nD) (f : (cc0_scratch0 : Ref sig .tc).ty.Contents (Elt F)) :
    iprop(((w1 : Memref sig .tc .vmem S128x8192 .f32).view.loc (c : Thread nD τ) ↦[w1.view.set]{fullShare} (w1.view.write (Elt F) f ((x1 c).view.read (Elt F) (xV m c)) Finset.univ))
      ∗ ((x1 c).view.loc (c : Thread nD τ) ↦[(x1 c).view.set]{fullShare.left} (xV m c))) ⊢ payK m c 2 0 := by
  rw [show payK m c 2 0 = slot1 m c from rfl]
  unfold slot1
  iintro ⟨H, -⟩
  iexists f; iexact H
theorem pay_slot1 (c : Dev nD) : payK m c 2 0 ⊢ iprop(∃ f, wPts c w1.view.set (w1.view.write (Elt F) f ((x1 c).view.read (Elt F) (xV m c)) Finset.univ)) := BI.Entails.refl _

theorem pay5 (c : Dev nD) : payK m c 5 0 ⊢ oPts c (rowSet c) (part 0) (outV m c) := Entails.of_eq (by rw [payK])
theorem pay6 (c : Dev nD) : payK m c 6 0 ⊢ oPts c (rowSet c) (part 1) (outV m c) := Entails.of_eq (by rw [payK])
theorem pay7 (c : Dev nD) : payK m c 7 0 ⊢ oPts c (rowSet c) (part 2) (outV m c) := Entails.of_eq (by rw [payK])
theorem pay8 (c : Dev nD) : payK m c 8 0 ⊢ oPts c (rowSet (peer 1 c)) fullShare (outV m c) := Entails.of_eq (by rw [payK])
theorem pay9 (c : Dev nD) : payK m c 9 0 ⊢ oPts c (rowSet (peer 2 c)) fullShare (outV m c) := Entails.of_eq (by rw [payK])
theorem pay10 (c : Dev nD) : payK m c 10 0 ⊢ oPts c (rowSet (peer 3 c)) fullShare (outV m c) := Entails.of_eq (by rw [payK])
theorem cand_pay (c : Dev nD) : aPts c (candV m c) ⊢ payK m c 3 0 := by
  rw [show payK m c 3 0 = aPts c (candV m c) from rfl]
theorem row_pay1 (c : Dev nD) : oPts c (rowSet c) (part 0) (outV m c) ⊢ payK m c 5 0 := by
  rw [show payK m c 5 0 = oPts c (rowSet c) (part 0) (outV m c) from rfl]
theorem row_pay2 (c : Dev nD) : oPts c (rowSet c) (part 1) (outV m c) ⊢ payK m c 6 0 := by
  rw [show payK m c 6 0 = oPts c (rowSet c) (part 1) (outV m c) from rfl]
theorem row_pay3 (c : Dev nD) : oPts c (rowSet c) (part 2) (outV m c) ⊢ payK m c 7 0 := by
  rw [show payK m c 7 0 = oPts c (rowSet c) (part 2) (outV m c) from rfl]
theorem land_row1 (c : Dev nD) (f : (cc0_stg0_0 : Ref sig .tc).ty.Contents (Elt F)) :
    oPts (peer 1 c) (rowSet c) fullShare ((rowsOf c).view.write (Elt F) f ((rowsOf c).view.read (Elt F) (outV m c)) Finset.univ) ⊢ payK m (peer 1 c) 8 0 := by
  rw [show payK m (peer 1 c) 8 0 = oPts (peer 1 c) (rowSet (peer 1 (peer 1 c))) fullShare (outV m (peer 1 c)) from rfl]
  exact land_rows m 1 (by decide) c f
theorem land_row2 (c : Dev nD) (f : (cc0_stg0_0 : Ref sig .tc).ty.Contents (Elt F)) :
    oPts (peer 2 c) (rowSet c) fullShare ((rowsOf c).view.write (Elt F) f ((rowsOf c).view.read (Elt F) (outV m c)) Finset.univ) ⊢ payK m (peer 2 c) 9 0 := by
  rw [show payK m (peer 2 c) 9 0 = oPts (peer 2 c) (rowSet (peer 2 (peer 2 c))) fullShare (outV m (peer 2 c)) from rfl]
  exact land_rows m 2 (by decide) c f
theorem land_row3 (c : Dev nD) (f : (cc0_stg0_0 : Ref sig .tc).ty.Contents (Elt F)) :
    oPts (peer 3 c) (rowSet c) fullShare ((rowsOf c).view.write (Elt F) f ((rowsOf c).view.read (Elt F) (outV m c)) Finset.univ) ⊢ payK m (peer 3 c) 10 0 := by
  rw [show payK m (peer 3 c) 10 0 = oPts (peer 3 c) (rowSet (peer 3 (peer 3 c))) fullShare (outV m (peer 3 c)) from rfl]
  exact land_rows m 3 (by decide) c f
theorem land_cand (c : Dev nD) (f : (cc0_scratch2 : Ref sig .tc).ty.Contents (Elt F)) :
    bPts (peer 0 c) ((bM : Memref sig .tc .vmem S256x32 .f32).view.write (Elt F) f ((aM : Memref sig .tc .vmem S256x32 .f32).view.read (Elt F) (candV m c)) Finset.univ)
      ⊢ payK m (peer 0 c) 4 0 := by
  rw [copy_cand, show payK m (peer 0 c) 4 0 = bPts (peer 0 c) (candV m (peer 0 (peer 0 c))) from rfl, peer_peer]
theorem pay_cand (c : Dev nD) : payK m c 3 0 ⊢ (((c : Thread nD τ).loc cc0_scratch1) ↦{fullShare} (candV m c)) :=
  Entails.of_eq (by show aPts c (candV m c) = _; unfold aPts; rw [show (aM : Memref sig .tc .vmem S256x32 .f32).view.set = Finset.univ from View.set_whole _])
theorem pay_peer (c : Dev nD) : payK m c 4 0 ⊢ (((c : Thread nD τ).loc cc0_scratch2) ↦{fullShare} (candV m (peer 0 c))) :=
  Entails.of_eq (by show bPts c (candV m (peer 0 c)) = _; unfold bPts; rw [show (bM : Memref sig .tc .vmem S256x32 .f32).view.set = Finset.univ from View.set_whole _])
theorem own_rows (c : Dev nD) (f : (cc0_stg0_0 : Ref sig .tc).ty.Contents (Elt F)) :
    oPts c (rowSet c) fullShare (((oM : Memref sig .tc .vmem S1024x32 .f32).access (rO c)).write (Elt F) f (lastTop (candV m c) (candV m (peer 0 c))) Finset.univ)
      ⊢ oPts c (rowSet c) fullShare (outV m c) :=
  Entails.of_eq (pointsTo_congr fun i hi => store_own m c f i hi)

/-! ## The body's state before and after -/

/-- What a device's body starts from. -/
def start (c : Dev nD) : sProp 𝕄 :=
  iprop((∃ K, records m K ∗ linear c) ∗ levAts L lv
    ∗ (cred (tallyAt (kcell (c, 0)) () 4) ∗ cred (tallyAt (kcell (c, 4)) () (amtK 4)) ∗ cred (tallyAt (kcell (c, 8)) () (amtK 8))
      ∗ cred (tallyAt (kcell (c, 9)) () (amtK 9)) ∗ cred (tallyAt (kcell (c, 10)) () (amtK 10)))
    ∗ xPts c Finset.univ fullShare.left (xV m c))

def Φ₀ (c : Dev nD) : sProp 𝕄 := iprop(start m c ∗ Pipeline.scopedRest spec0 c)
def Φ₁ (c : Dev nD) : sProp 𝕄 := iprop((bigSep Finset.univ fun k : Fin 11 => semVal (kcell (c, k)) 0) ∗ Pipeline.scopedRest spec0 c)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => Φ₀ m c
    | ⟨_ + 1, _⟩ => Φ₁ c
  q _ := fullShare
  owed t := match t with
    | ⟨0, _⟩ => owed c 8
    | ⟨_ + 1, _⟩ => owed c 0

abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (K : Dev nD × Fin 11 → ℕ) (c : Dev nD) : sProp 𝕄 :=
  iprop((records m K ∗ linear c) ∗ levAts L lv
    ∗ (cred (tallyAt (kcell (c, 0)) () 4) ∗ cred (tallyAt (kcell (c, 4)) () (amtK 4)) ∗ cred (tallyAt (kcell (c, 8)) () (amtK 8))
      ∗ cred (tallyAt (kcell (c, 9)) () (amtK 9)) ∗ cred (tallyAt (kcell (c, 10)) () (amtK 10)))
    ∗ xPts c Finset.univ fullShare.left (xV m c)
    ∗ Pipeline.scopedRest spec0 c
    ∗ (dats m 0 c).owesAt () t0_0.castSucc
    ∗ (∃ d, stg c ((dats m 0 c).before (0 : Fin 1) t0_0 d)))

def bodyPost (c : Dev nD) : sProp 𝕄 :=
  iprop(Φ₁ c ∗ (dats m 0 c).owesAt () t0_0.succ ∗ stg c (outV m c))

set_option maxHeartbeats 2000000 in
set_option maxRecDepth 8192 in
/-- The body, one operation after another. -/
theorem sound_body (K : Dev nD × Fin 11 → ℕ) (c : Dev nD) (Kt : PUnit → sProp 𝕄) :
    iprop(bodyPre m K c ∗ (bodyPost m c -∗ Kt ⟨⟩))
      ⊢ runs c (cc0_body (Memref.whole main_arg0) (Memref.isWhole_whole _) (Memref.whole cc0_stg0_0) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scratch7) Kt := by
  rw [cc0_body_eq]
  unfold body
  simp only [semSignalWord, semWaitWord, Prog.lift, Prog.bind_op, Prog.bind_ret, Prog.pure_eq_ret, wp_deviceId]
  unfold bodyPre linear payToks
  rw [bigSep_cells, bigSep_toks, scopedRest0_eq]
  iintro ⟨⟨⟨#HR, ⟨A0, A1, A2, A3, A4, A5, A6, A7, A8, A9, A10⟩, T0, T1, T2, T3, T4, T5, T6, T7, T8, T9, T10, T11, T12, T13⟩, #Hlev,
    ⟨C0, C4, C8, C9, C10⟩, HX, ⟨⟨%fw, HW⟩, ⟨%fa, HA⟩, ⟨%fb, HB⟩⟩, Ho, ⟨%d0, %g0, %hg0, Hout⟩⟩, Hk⟩
  unfold Dat.owesAt Pipeline.owesWithin
  icases Ho with ⟨%W, %hW, HO⟩
  rw [show (dats m 0 c).owed t0_0.castSucc = owed c 8 from rfl]
  simp only [dev1_eq c, dev2_eq c, dev3_eq c, dev4_eq c]
  -- the buffers in pieces
  ihave HX2 := (arg_split m c fullShare.left) $$ HX
  icases HX2 with ⟨HX0, HX1⟩
  ihave HW2 := (slots_split c fw) $$ HW
  icases HW2 with ⟨HW0, HW1⟩
  ihave HO4 := (rows_split c g0).1 $$ Hout
  icases HO4 with ⟨O0, O1, O2, O3⟩
  -- the four signals
  iapply (signal_k m K c 0 7 rfl (by decide)) $$ [HO T0 HB]
  · isplitr; · iexact HR
    isplitl [HO]; · iexact HO
    isplitl [T0]; · iexact T0
    unfold barPay bPts; iexists fb; rw [peer_peer, show (bM : Memref sig .tc .vmem S256x32 .f32).view.set = Finset.univ from View.set_whole _]; iexact HB
  iintro HO
  iapply (signal_k m K c 1 6 rfl (by decide)) $$ [HO T1 O1]
  · isplitr; · iexact HR
    isplitl [HO]; · iexact HO
    isplitl [T1]; · iexact T1
    unfold barPay; iexists g0; rw [peer_peer]; iexact O1
  iintro HO
  iapply (signal_k m K c 2 5 rfl (by decide)) $$ [HO T2 O2]
  · isplitr; · iexact HR
    isplitl [HO]; · iexact HO
    isplitl [T2]; · iexact T2
    unfold barPay; iexists g0; rw [peer_peer]; iexact O2
  iintro HO
  iapply (signal_k m K c 3 4 rfl (by decide)) $$ [HO T3 O3]
  · isplitr; · iexact HR
    isplitl [HO]; · iexact HO
    isplitl [T3]; · iexact T3
    unfold barPay; iexists g0; rw [peer_peer]; iexact O3
  iintro HO
  -- the barrier wait
  iapply (wait_cell m K c 0 4 (by decide) (k' := 4) (wpE_semWait_eq 𝒱₀ (c : Thread nD τ) none Set.univ) (expect_bar m c).symm (rest_bar m c)) $$ [C0 HO A0]
  · isplitr; · iexact HR
    isplitr; · iexact Hlev
    isplitl [C0]; · iexact C0
    isplitl [HO]; · iexact HO
    iexact A0
  iintro ⟨HO, Z0, P0, P1, P2, P3⟩
  unfold barPay
  icases P0 with ⟨%fB, PB⟩
  icases P1 with ⟨%f1, P1⟩
  icases P2 with ⟨%f2, P2⟩
  icases P3 with ⟨%f3, P3⟩
  -- the two local copies
  iapply (copy_k m K c 1 (by decide) (src := x0 c) (dst := w0) (sh := fullShare.left) (fs := xV m c) (fd := fw) rfl (slot0_pay m c fw)) $$ [HX0 HW0 T4]
  · isplitr; · iexact HR
    isplitl [HX0]; · iexact HX0
    isplitl [HW0]; · iexact HW0
    iexact T4
  iintro C1
  iapply (copy_k m K c 2 (by decide) (src := x1 c) (dst := w1) (sh := fullShare.left) (fs := xV m c) (fd := fw) rfl (slot1_pay m c fw)) $$ [HX1 HW1 T5]
  · isplitr; · iexact HR
    isplitl [HX1]; · iexact HX1
    isplitl [HW1]; · iexact HW1
    iexact T5
  iintro C2
  -- the two blocks
  iapply (wait_dma m K c 1 (by decide) 4 (by decide) (dst := w0) rfl rfl) $$ [C1 HO A1]
  · isplitr; · iexact HR
    isplitr; · iexact Hlev
    isplitl [C1]; · iexact C1
    isplitl [HO]; · iexact HO
    iexact A1
  iintro ⟨HO, Z1, HS⟩
  icases (pay_slot0 m c) $$ HS with ⟨%g1, HS0⟩
  iapply (wp_load_rect 𝒱₀ (c : Thread nD τ) none Set.univ (m := wM) (r := rS0) slot_mem0) $$ HS0; iintro HS0
  rw [load0]
  iapply (wp_load 𝒱₀ (c : Thread nD τ) none Set.univ (m := aM) (Finset.subset_univ _)) $$ HA; iintro HA
  iapply (wp_store 𝒱₀ (c : Thread nD τ) none Set.univ (m := aM) (r := rA0) (Mk := Finset.univ) (Finset.subset_univ _)) $$ HA; iintro HA
  iapply (wait_dma m K c 2 (by decide) 4 (by decide) (dst := w1) rfl rfl) $$ [C2 HO A2]
  · isplitr; · iexact HR
    isplitr; · iexact Hlev
    isplitl [C2]; · iexact C2
    isplitl [HO]; · iexact HO
    iexact A2
  iintro ⟨HO, Z2, HS⟩
  icases (pay_slot1 m c) $$ HS with ⟨%g2, HS1⟩
  iapply (wp_load_rect 𝒱₀ (c : Thread nD τ) none Set.univ (m := wM) (r := rS1) slot_mem1) $$ HS1; iintro HS1
  rw [load1]
  iapply (wp_load 𝒱₀ (c : Thread nD τ) none Set.univ (m := aM) (Finset.subset_univ _)) $$ HA; iintro HA
  iapply (wp_store 𝒱₀ (c : Thread nD τ) none Set.univ (m := aM) (r := rA1) (Mk := Finset.univ) (Finset.subset_univ _)) $$ HA; iintro HA
  rw [store_cand]
  -- the candidates exchanged
  iapply (send_at m K c (peer 0 c) (dev5_eq c) 3 4 3 rfl rfl (src := aM) (dst := bM) (sh := fullShare) (fs := candV m c) (fd := fB) rfl
    (cand_pay m c) (land_cand m c fB)) $$ [HA PB HO T6 T7]
  · isplitr; · iexact HR
    isplitl [HA]; · rw [show (aM : Memref sig .tc .vmem S256x32 .f32).view.set = Finset.univ from View.set_whole _]; iexact HA
    isplitl [PB]; · iexact PB
    isplitl [HO]; · iexact HO
    isplitl [T6]; · iexact T6
    iexact T7
  iintro ⟨C3, HO⟩
  iapply (wait_dma m K c 3 (by decide) 3 (by decide) (dst := aM) rfl rfl) $$ [C3 HO A3]
  · isplitr; · iexact HR
    isplitr; · iexact Hlev
    isplitl [C3]; · iexact C3
    isplitl [HO]; · iexact HO
    iexact A3
  iintro ⟨HO, Z3, HA⟩
  iapply (wait_dma m K c 4 (by decide) 3 (by decide) (dst := bM) rfl rfl) $$ [C4 HO A4]
  · isplitr; · iexact HR
    isplitr; · iexact Hlev
    isplitl [C4]; · iexact C4
    isplitl [HO]; · iexact HO
    iexact A4
  iintro ⟨HO, Z4, HB⟩
  icases (pay_cand m c) $$ HA with HA
  icases (pay_peer m c) $$ HB with HB
  iapply (wp_load 𝒱₀ (c : Thread nD τ) none Set.univ (m := aM) (Finset.subset_univ _)) $$ HA; iintro HA
  rw [load_cand]
  iapply (wp_load 𝒱₀ (c : Thread nD τ) none Set.univ (m := bM) (Finset.subset_univ _)) $$ HB; iintro HB
  rw [load_peer]
  iapply (wp_load_rect 𝒱₀ (c : Thread nD τ) none Set.univ (m := oM) (r := rO c) (S := rowSet c) (rO_set c).le) $$ O0; iintro O0
  iapply (wp_store 𝒱₀ (c : Thread nD τ) none Set.univ (m := oM) (r := rO c) (Mk := Finset.univ) (S := rowSet c) (by rw [View.setOn_univ, rO_set])) $$ O0; iintro O0
  ihave O0 := (own_rows m c g0) $$ O0
  icases (parts_split c (rowSet c) (outV m c)).1 $$ O0 with ⟨R1, R2, R3⟩
  iapply (send_at m K c (peer 1 c) (dev6_eq c) 5 8 2 rfl rfl (src := rowsOf c) (dst := rowsOf c) (sh := part 0) (fs := outV m c) (fd := f1) rfl
    (row_pay1 m c) (land_row1 m c f1)) $$ [R1 P1 HO T8 T11]
  · isplitr; · iexact HR
    isplitl [R1]; · iexact R1
    isplitl [P1]; · iexact P1
    isplitl [HO]; · iexact HO
    isplitl [T8]; · iexact T8
    iexact T11
  iintro ⟨C5, HO⟩
  iapply (send_at m K c (peer 2 c) (dev7_eq c) 6 9 1 rfl rfl (src := rowsOf c) (dst := rowsOf c) (sh := part 1) (fs := outV m c) (fd := f2) rfl
    (row_pay2 m c) (land_row2 m c f2)) $$ [R2 P2 HO T9 T12]
  · isplitr; · iexact HR
    isplitl [R2]; · iexact R2
    isplitl [P2]; · iexact P2
    isplitl [HO]; · iexact HO
    isplitl [T9]; · iexact T9
    iexact T12
  iintro ⟨C6, HO⟩
  iapply (send_at m K c (peer 3 c) (dev8_eq c) 7 10 0 rfl rfl (src := rowsOf c) (dst := rowsOf c) (sh := part 2) (fs := outV m c) (fd := f3) rfl
    (row_pay3 m c) (land_row3 m c f3)) $$ [R3 P3 HO T10 T13]
  · isplitr; · iexact HR
    isplitl [R3]; · iexact R3
    isplitl [P3]; · iexact P3
    isplitl [HO]; · iexact HO
    isplitl [T10]; · iexact T10
    iexact T13
  iintro ⟨C7, HO⟩
  iapply (wait_dma m K c 5 (by decide) 0 (by decide) (dst := rowsOf c) rfl rfl) $$ [C5 HO A5]
  · isplitr; · iexact HR
    isplitr; · iexact Hlev
    isplitl [C5]; · iexact C5
    isplitl [HO]; · iexact HO
    iexact A5
  iintro ⟨HO, Z5, Y5⟩
  iapply (wait_dma m K c 8 (by decide) 0 (by decide) (dst := rowsOf c) rfl rfl) $$ [C8 HO A8]
  · isplitr; · iexact HR
    isplitr; · iexact Hlev
    isplitl [C8]; · iexact C8
    isplitl [HO]; · iexact HO
    iexact A8
  iintro ⟨HO, Z8, Y8⟩
  iapply (wait_dma m K c 6 (by decide) 0 (by decide) (dst := rowsOf c) rfl rfl) $$ [C6 HO A6]
  · isplitr; · iexact HR
    isplitr; · iexact Hlev
    isplitl [C6]; · iexact C6
    isplitl [HO]; · iexact HO
    iexact A6
  iintro ⟨HO, Z6, Y6⟩
  iapply (wait_dma m K c 9 (by decide) 0 (by decide) (dst := rowsOf c) rfl rfl) $$ [C9 HO A9]
  · isplitr; · iexact HR
    isplitr; · iexact Hlev
    isplitl [C9]; · iexact C9
    isplitl [HO]; · iexact HO
    iexact A9
  iintro ⟨HO, Z9, Y9⟩
  iapply (wait_dma m K c 7 (by decide) 0 (by decide) (dst := rowsOf c) rfl rfl) $$ [C7 HO A7]
  · isplitr; · iexact HR
    isplitr; · iexact Hlev
    isplitl [C7]; · iexact C7
    isplitl [HO]; · iexact HO
    iexact A7
  iintro ⟨HO, Z7, Y7⟩
  iapply (wait_dma m K c 10 (by decide) 0 (by decide) (dst := rowsOf c) rfl rfl) $$ [C10 HO A10]
  · isplitr; · iexact HR
    isplitr; · iexact Hlev
    isplitl [C10]; · iexact C10
    isplitl [HO]; · iexact HO
    iexact A10
  iintro ⟨HO, Z10, Y10⟩
  unfold runs; rw [wp_ret]; imodintro
  iapply Hk
  unfold bodyPost Φ₁ Dat.owesAt Pipeline.owesWithin
  rw [show (dats m 0 c).owed t0_0.succ = owed c 0 from rfl, bigSep_cells, scopedRest0_eq]
  isplitr [HO Y5 Y6 Y7 Y8 Y9 Y10]
  · isplitr [HS0 HS1 HA HB]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      iexact Z10
    isplitl [HS0 HS1]
    · iapply (slots_join (F := F) c _ _); isplitl [HS0]; · iexact HS0
      iexact HS1
    isplitl [HA]; · iexists _; iexact HA
    iexists _; iexact HB
  isplitl [HO]
  · iexists (insert (csem 10, ()) (insert (csem 7, ()) (insert (csem 9, ()) (insert (csem 6, ()) (insert (csem 8, ()) (insert (csem 5, ()) (insert (csem 4, ()) (insert (csem 3, ()) (insert (csem 2, ()) (insert (csem 1, ()) (insert (csem 0, ()) W)))))))))))
    isplitr; · ipureintro; exact fun _ _ => Or.inl trivial
    iexact HO
  iexists _; isplitr; · (ipureintro; rfl)
  iapply (rows_split c (outV m c)).2
  isplitl [Y5 Y6 Y7]
  · iapply (parts_split c (rowSet c) (outV m c)).2
    isplitl [Y5]; · iapply (pay5 m c); iexact Y5
    isplitl [Y6]; · iapply (pay6 m c); iexact Y6
    iapply (pay7 m c); iexact Y7
  isplitl [Y8]; · iapply (pay8 m c); iexact Y8
  isplitl [Y9]; · iapply (pay9 m c); iexact Y9
  iapply (pay10 m c); iexact Y10

def bodyPre' (c : Dev nD) : sProp 𝕄 :=
  iprop(Φ₀ m c ∗ (dats m 0 c).owesAt () t0_0.castSucc ∗ (∃ d, stg c ((dats m 0 c).before (0 : Fin 1) t0_0 d)))

set_option maxRecDepth 4000 in
/-- What the launch asks of the body on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ runs c (bodyAt0 t0_0) (fun _ => bodyPost m c)
  unfold bodyPre' Φ₀ start
  iintro ⟨⟨⟨⟨%K, Hg⟩, Hrest⟩, Hscr⟩, Ho, Hout⟩
  iapply (sound_body m K c fun _ => bodyPost m c)
  unfold bodyPre
  isplitr []
  · isplitl [Hg]; · iexact Hg
    icases Hrest with ⟨H1, H2, H3⟩
    isplitl [H1]; · iexact H1
    isplitl [H2]; · iexact H2
    isplitl [H3]; · iexact H3
    isplitl [Hscr]; · iexact Hscr
    isplitl [Ho] <;> iassumption
  · iintro H; iexact H

end Cert.TopK
-- ==== Proof.Launched.lean ====
/-
# The launch

From any memory with zero counters every execution ends: each device's result buffer at the result, the argument as it was, every counter zero.
-/
module

public import proofs.«01_k».proof.Proof.Run
public import Idealize.ShloMosaic.Lib.Pipeline.CollectiveSegs
public import Idealize.ShloMosaic.Adequacy
public import Idealize.ShloMosaic.Init

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-! ## The launch's ghost state -/

def allCells : Finset (GSem nD τ sig) := Finset.univ.map ⟨kcell, kcell_injective⟩

/-- Every duty's token. -/
abbrev tokOf (cj : Dev nD × Fin 14) : GSem nD τ sig × ℕ × Fin 4 := (kcell (cj.1, tokK cj.2), 0, tokD cj.2)
theorem tokOf_injective : Function.Injective (tokOf : Dev nD × Fin 14 → GSem nD τ sig × ℕ × Fin 4) := by
  rintro ⟨c, j⟩ ⟨c', j'⟩ h
  have h1 := kcell_injective (congrArg Prod.fst h)
  have h2 : tokD j = tokD j' := congrArg (fun x : GSem nD τ sig × ℕ × Fin 4 => x.2.2) h
  have hc : c = c' := congrArg Prod.fst h1
  have hk : tokK j = tokK j' := congrArg Prod.snd h1
  have : j = j' := by clear h h1 hc; revert h2 hk; revert j j'; decide
  rw [hc, this]
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- What each device is dealt. -/
def G (c : Dev nD) : sProp 𝕄 :=
  iprop((bigSep Finset.univ fun k : Fin 11 => roundState ER (sched m) (kcell (c, k)) 0)
    ∗ (bigSep Finset.univ fun k : Fin 11 => iprop(pos c k ∗ reached ER (kcell (c, k)) 0)) ∗ toks c)

/-- What it holds once the cells' invariants are made and the tokens dealt to their payers. -/
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    (bigSep Finset.univ fun k : Fin 11 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 11 => iprop(∃ κ : ℕ, cellInv ER (sched m) κ (kcell (c, k))))
          ∗ (bigSep Finset.univ fun k : Fin 11 => iprop(pos c k ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 11 => semVal (kcell (c, k)) 0) ∗ bigSep Finset.univ fun k : Fin 11 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def payer (j : Fin 14) : Dev nD ≃ Dev nD := ⟨tokP j, tokP j, tokP_tokP j, tokP_tokP j⟩

/-- The tokens dealt from the cells' devices to their payers. -/
theorem toks_around : (bigSep Finset.univ fun c : Dev nD => (toks c : sProp 𝕄)) = bigSep Finset.univ fun c : Dev nD => payToks c := by
  unfold toks payToks
  rw [bigSep_univ_comm (fun (c : Dev nD) (j : Fin 14) => (tok c j : sProp 𝕄)), bigSep_univ_comm (fun (c : Dev nD) (j : Fin 14) => (tok (tokP j c) j : sProp 𝕄))]
  exact bigSep_congr fun j _ => bigSep_univ_equiv (payer j) (fun c : Dev nD => (tok c j : sProp 𝕄))

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 11 => iprop(∃ κ : ℕ, cellInv ER (sched m) κ (kcell (c, k))))
          ∗ (bigSep Finset.univ fun k : Fin 11 => iprop(pos c k ∗ reached ER (kcell (c, k)) 0)) ∗ toks c) : sProp 𝕄)
      ⊢ bigSep Finset.univ (G' m) := by
  rw [bigSep_sep', bigSep_sep', ← bigSep_univ_prod (fun ck : Dev nD × Fin 11 => iprop(∃ κ : ℕ, cellInv ER (sched m) κ (kcell ck))),
    bigSep_congr (s := Finset.univ) (fun (c : Dev nD) _ => bigSep_sep' Finset.univ (fun k : Fin 11 => (pos c k : sProp 𝕄)) (fun k => reached ER (kcell (c, k)) 0)),
    bigSep_sep', ← bigSep_univ_prod (fun ck : Dev nD × Fin 11 => (reached ER (kcell ck) 0 : sProp 𝕄)), toks_around]
  iintro ⟨HI, ⟨Hat, #HR⟩, Htok⟩
  ihave HK := (BI.bigSep_exists_pi Finset.univ (fun (ck : Dev nD × Fin 11) (κ : ℕ) => (cellInv ER (sched m) κ (kcell ck) : sProp 𝕄))) $$ HI
  icases HK with ⟨%K, #HI⟩
  iapply (with_records (R := records m K) (Φ := linear) fun c _ => show iprop(records m K ∗ linear c) ⊢ G' m c from by
    unfold G'; iintro H; iexists K; iexact H)
  isplitr
  · unfold records; isplitl; · iexact HI
    iexact HR
  · unfold linear
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The credit matching due `n`. -/
theorem cred_due (n : ℕ) (c : Dev nD) :
    (Pipeline.launchCred (fun d => tallyAt (due d n) () (amtK (dueK n))) c : sProp 𝕄) ⊢ cred (tallyAt (kcell (c, dueK n)) () (amtK (dueK n))) :=
  Pipeline.launchCred_tallyAt (csem (dueK n)) (peer (dueI n)) (peer (dueI n)) (peer_peer _) (peer_peer _) () (amtK (dueK n)) c

theorem creds (c : Dev nD) :
    (Pipeline.launchCred (fun d => owed d 8) c : sProp 𝕄) ⊢ iprop(cred (tallyAt (kcell (c, 0)) () 4) ∗ cred (tallyAt (kcell (c, 4)) () (amtK 4))
      ∗ cred (tallyAt (kcell (c, 8)) () (amtK 8)) ∗ cred (tallyAt (kcell (c, 9)) () (amtK 9)) ∗ cred (tallyAt (kcell (c, 10)) () (amtK 10))) := by
  have step (n : ℕ) : (Pipeline.launchCred (fun d => owed d (n + 1)) c : sProp 𝕄)
      ⊢ iprop(Pipeline.launchCred (fun d => owed d n) c ∗ cred (tallyAt (kcell (c, dueK n)) () (amtK (dueK n)))) := by
    rw [show (fun d => owed d (n + 1)) = (fun d => owed d n + tallyAt (due d n) () (amtK (dueK n))) from rfl, Pipeline.launchCred_add]
    exact sep_mono_right (cred_due n c)
  iintro H
  icases (step 7) $$ H with ⟨H, B7⟩
  icases (step 6) $$ H with ⟨H, B6⟩
  icases (step 5) $$ H with ⟨H, B5⟩
  icases (step 4) $$ H with ⟨H, B4⟩
  icases (step 3) $$ H with ⟨H, C3⟩
  icases (step 2) $$ H with ⟨H, C2⟩
  icases (step 1) $$ H with ⟨H, C1⟩
  icases (step 0) $$ H with ⟨-, C0⟩
  isplitl [B7 B6 B5 B4]
  · rw [show (tallyAt (kcell (c, 0)) () 4 : CellTallies nD τ sig Unit)
        = tallyAt (kcell (c, 0)) () 1 + (tallyAt (kcell (c, 0)) () 1 + (tallyAt (kcell (c, 0)) () 1 + tallyAt (kcell (c, 0)) () 1)) from by
      simp only [tallyAt_add]]
    iapply (cred_add _ _).2; isplitl [B7]; · iexact B7
    iapply (cred_add _ _).2; isplitl [B6]; · iexact B6
    iapply (cred_add _ _).2; isplitl [B5]; · iexact B5
    iexact B4
  isplitl [C3]; · iexact C3
  isplitl [C2]; · iexact C2
  isplitl [C1]; · iexact C1
  iexact C0

/-! ## The launch's side conditions -/

/-- The share of the argument that stays out of the body. -/
abbrev keep (c : Dev nD) : sProp 𝕄 := xPts c Finset.univ fullShare.right (xV m c)

theorem start_intro (c : Dev nD) :
    iprop(Pipeline.unscopedRestP Pipeline.Prefetch.none cfg0.spec c (fun b => m ((c : Thread nD τ).loc b)) ∗ levAts L lv
        ∗ Pipeline.launchCred (fun d => owed d 8) c ∗ prngReg c (ρ c) ∗ G' m c)
      ⊢ |={Set.univ}=> iprop(start m c ∗ keep m c) := by
  rw [Pipeline.unscopedRestP_none, unscopedRest0_eq]
  iintro ⟨HX, Hlev, Hcr, -, HG⟩
  ihave Hc := (creds (F := F) c) $$ Hcr
  ihave HX2 := (pointsTo_share (PosShare.mem_left_op_right fullShare)).1 $$ HX
  icases HX2 with ⟨HX1, HX2⟩
  imodintro
  unfold start G'
  isplitr [HX2]
  · isplitl [HG]; · iexact HG
    isplitl [Hlev]; · iexact Hlev
    isplitl [Hc]; · iexact Hc
    iexact HX1
  · iexact HX2

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [sems0_eq]
  iintro ⟨⟨HB, HO⟩, Hr⟩
  isplitl [HB]; · iexact HB
  isplitl [HO]; · iexact HO
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of_lt c _ 8 0 (by fin_cases w; fin_cases s; rfl) (by decide)
    · exact mayWait_of_lt c _ 0 0 (by fin_cases w; fin_cases s; rfl) (by decide)

/-! ## The run -/

def finalA (c : Dev nD) (w : Fin cfg0.W) : Buf (Elt F) ((cfg0.win w).arr.view.loc (c : Thread nD τ)) := (dats m 0 c).arrAt w cfg0.N

/-- The state a run starts from. -/
abbrev s₀ : MemSt nD τ sig (Elt F) := ⟨m, fun _ => 0, ρ⟩

def QY (c : Dev nD) (s : MemSt nD τ sig (Elt F)) : Prop :=
  s.mem ((c : Thread nD τ).loc main_arg0) = m ((c : Thread nD τ).loc main_arg0)
    ∧ ∀ sm : SemLoc sig, sm.isScoped .tc = false → s.sem ((c.tc : Thread nD τ), sm) = 0

theorem read_end (c : Dev nD) (s' : Phys nD τ sig (Elt F)) :
    iprop(unscopedSems0 c ∗ keep m c ∗ SI s') ⊢ |={Set.univ}=> (iprop(⌜QY m c s'.mem⌝ ∗ SI s') : sProp 𝕄) := by
  iintro ⟨Hu, Hk, HSI⟩
  ihave %h := (SI_pointsTo_agree (st := s') (ℓ := (c : Thread nD τ).loc main_arg0) (I := Finset.univ) (q := fullShare.right) (f := xV m c)) $$ [HSI Hk]
  · isplitl [HSI] <;> iassumption
  imod (Pipeline.unscopedSems0_read (X := unscopedSems0 c) (c := c) fupd_intro s') $$ [Hu HSI] with ⟨%h2, HSI⟩
  · isplitl [Hu] <;> iassumption
  imodintro
  isplitr
  · ipureintro; exact ⟨funext fun i => h i (Finset.mem_univ i), h2⟩
  iexact HSI

set_option maxRecDepth 8000 in
theorem run_main : θ_run defs (onTc (τ := τ) (main (F := F))) (s₀ m ρ) (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d 8) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := keep m)
    (hX := start_intro m ρ) (hin := phi0_intro m) (hout := phi1_exit m)
    (QY := QY m) (hY := read_end m)
    (hQ := fun _ h hs => ⟨fun c => ⟨(h c).1, (h c).2.2.1⟩, sem_eq_zero hs fun c => (h c).2.2.2⟩)

/-- The result array ends holding the result. -/
theorem finalA_out (c : Dev nD) : finalA m c (0 : Fin 1) = outV m c := by
  unfold finalA
  rw [show cfg0.N = (t0_0 : Fin cfg0.N).val + 1 from rfl, (dats m 0 c).arrAt_succ (0 : Fin 1) t0_0]
  rw [show (cfg0.win (0 : Fin 1)).flush t0_0 = true from flush0_0 t0_0, if_pos rfl]
  have hz : (fun a => (win0_0.index t0_0) a * main_v1.ty.shape.size a) = fun _ => 0 := funext fun a => by fin_cases a <;> decide
  have hr := fun f => Memref.read_access_unit_zero (Elt F) main_v1 hz (fun a => by fin_cases a <;> decide) f
  exact (hr _).symm.trans (View.read_write_univ _ _)

/-- Each device's result buffer ends at the result, its argument as it was, every counter at zero. -/
theorem run_kernel : θ_run defs (onTc (τ := τ) (main (F := F))) (s₀ m ρ) (fun r =>
    (∀ c : Dev nD, r.2.mem ((c : Thread nD τ).loc main_v1) = outV m c
      ∧ r.2.mem ((c : Thread nD τ).loc main_arg0) = m ((c : Thread nD τ).loc main_arg0)) ∧ r.2.sem = fun _ => 0) :=
  (θ_run defs _ _).mono (fun _ h => ⟨fun c => ⟨((h.1 c).1 (0 : Fin 1)).trans (finalA_out m c), (h.1 c).2⟩, h.2⟩) (run_main m ρ)

end Cert.TopK
-- ==== Proof.Greatest.lean ====
/-
# The greatest values of a row, each once

`top f j` is the `j`-th greatest DIFFERENT value of a finite family, `⊥` once they run out: what 32 rounds of "take the greatest,
strike out every entry equal to it" give. Proved here of it: the rounds compute it (`sup_iterate_strike`), a smaller family that
keeps enough of the values has the same first ones (`top_congr`), a value with at most `n` entries above it is among the first
`n + 1` (`exists_top_eq`), and a descending arrangement without ties lists it (`top_of_sorted`).
-/
module

public import Mathlib.Data.Finset.Lattice.Fold
public import Mathlib.Data.Fintype.Card
public import Mathlib.Order.Interval.Finset.Fin

@[expose] public section

namespace Cert.TopK.Row

variable {α : Type} [LinearOrder α] [OrderBot α] {ι κ : Type} [Fintype ι] [Fintype κ]

/-- The greatest value below `a`. -/
def below (f : ι → α) (a : α) : α := Finset.univ.sup fun i => if f i < a then f i else ⊥

/-- The `j`-th greatest different value. -/
def top (f : ι → α) (j : ℕ) : α := Nat.rec (motive := fun _ => α) (Finset.univ.sup f) (fun _ a => below f a) j

/-- Every entry equal to the greatest replaced by `⊥`. -/
def strike (f : ι → α) : ι → α := fun i => if f i = Finset.univ.sup f then ⊥ else f i

theorem top_zero (f : ι → α) : top f 0 = Finset.univ.sup f := rfl
theorem top_succ (f : ι → α) (j : ℕ) : top f (j + 1) = below f (top f j) := rfl

theorem le_sup (f : ι → α) (i : ι) : f i ≤ Finset.univ.sup f := Finset.le_sup (f := f) (Finset.mem_univ i)

/-- The greatest value is one of the entries, or there is none above `⊥`. -/
theorem sup_mem (f : ι → α) : Finset.univ.sup f = ⊥ ∨ ∃ i, f i = Finset.univ.sup f := by
  rcases (Finset.univ : Finset ι).eq_empty_or_nonempty with h | h
  · left; rw [h]; rfl
  · right
    obtain ⟨i, -, hi⟩ := Finset.exists_mem_eq_sup _ h f
    exact ⟨i, hi.symm⟩

theorem le_below (f : ι → α) {a : α} {i : ι} (h : f i < a) : f i ≤ below f a := by
  have h' : (if f i < a then f i else ⊥) ≤ below f a := le_sup (fun i => if f i < a then f i else ⊥) i
  rwa [if_pos h] at h'

theorem below_mem (f : ι → α) (a : α) : below f a = ⊥ ∨ ∃ i, f i = below f a ∧ f i < a := by
  rcases sup_mem (fun i => if f i < a then f i else ⊥) with h | ⟨i, h⟩
  · exact Or.inl h
  · by_cases hi : f i < a
    · exact Or.inr ⟨i, (if_pos hi).symm.trans h, hi⟩
    · exact Or.inl (h.symm.trans (if_neg hi))

theorem below_le (f : ι → α) {a b : α} (h : ∀ i, f i < a → f i ≤ b) : below f a ≤ b := by
  rcases below_mem f a with e | ⟨i, e, hi⟩
  · rw [e]; exact bot_le
  · rw [← e]; exact h i hi

theorem below_le_self (f : ι → α) (a : α) : below f a ≤ a := below_le f fun _ h => h.le

/-! ## The rounds -/

/-- What the rounds leave before round `j + 1`: the entries below the `j`-th value. -/
theorem iterate_strike (f : ι → α) (j : ℕ) : strike^[j + 1] f = fun i => if f i < top f j then f i else ⊥ := by
  induction j with
  | zero =>
    funext i
    show (if f i = Finset.univ.sup f then ⊥ else f i) = if f i < Finset.univ.sup f then f i else ⊥
    rcases (le_sup f i).eq_or_lt with h | h
    · rw [if_pos h, if_neg (by rw [h]; exact lt_irrefl _)]
    · rw [if_neg h.ne, if_pos h]
  | succ j ih =>
    rw [Function.iterate_succ_apply', ih]
    funext i
    show (if (if f i < top f j then f i else ⊥) = below f (top f j) then ⊥ else if f i < top f j then f i else ⊥)
      = if f i < below f (top f j) then f i else ⊥
    by_cases h : f i < top f j
    · rw [if_pos h]
      rcases (le_below f h).eq_or_lt with e | e
      · rw [if_pos e, if_neg (by rw [← e]; exact lt_irrefl _)]
      · rw [if_neg e.ne, if_pos e]
    · rw [if_neg h, if_neg (fun h' => h (lt_of_lt_of_le h' (below_le_self f _))), ite_self]

/-- Round `j` takes the `j`-th value. -/
theorem sup_iterate_strike (f : ι → α) (j : ℕ) : Finset.univ.sup (strike^[j] f) = top f j := by
  cases j with
  | zero => rfl
  | succ j => rw [iterate_strike]; rfl

/-! ## A family that keeps enough of the values -/

theorem top_mem (f : ι → α) (j : ℕ) : top f j = ⊥ ∨ ∃ i, f i = top f j := by
  cases j with
  | zero => exact sup_mem f
  | succ j => exact (below_mem f _).imp_right fun ⟨i, h, _⟩ => ⟨i, h⟩

theorem top_congr (f : ι → α) (g : κ → α) (n : ℕ) (hg : ∀ k, g k = ⊥ ∨ ∃ i, f i = g k)
    (hf : ∀ j, j ≤ n → top f j = ⊥ ∨ ∃ k, g k = top f j) (j : ℕ) (hj : j ≤ n) : top g j = top f j := by
  induction j with
  | zero =>
    refine le_antisymm (Finset.sup_le fun k _ => ?_) ?_
    · rcases hg k with h | ⟨i, h⟩
      · rw [h]; exact bot_le
      · rw [← h]; exact le_sup f i
    · rcases hf 0 hj with h | ⟨k, h⟩
      · rw [h]; exact bot_le
      · rw [← h]; exact le_sup g k
  | succ j ih =>
    rw [top_succ, top_succ, ih (by omega)]
    refine le_antisymm (below_le g fun k hk => ?_) ?_
    · rcases hg k with h | ⟨i, h⟩
      · rw [h]; exact bot_le
      · rw [← h] at hk ⊢; exact le_below f hk
    · rcases hf (j + 1) hj with h | ⟨k, h⟩
      · rw [← top_succ, h]; exact bot_le
      · rw [top_succ] at h
        rcases below_mem f (top f j) with e | ⟨i, e, hi⟩
        · rw [e]; exact bot_le
        · rw [← h]; exact le_below g (by rw [h, ← e]; exact hi)

/-! ## A value with few entries above it -/

/-- The number of entries above `v`. -/
def above (f : ι → α) (v : α) : ℕ := (Finset.univ.filter fun i => v < f i).card

theorem exists_top_eq (f : ι → α) {i₀ : ι} : ∃ j, j ≤ above f (f i₀) ∧ top f j = f i₀ := by
  have key : ∀ r, (∃ j, j ≤ r ∧ top f j = f i₀) ∨
      (f i₀ < top f r ∧ r + 1 ≤ (Finset.univ.filter fun i => top f r ≤ f i).card) := by
    intro r
    induction r with
    | zero =>
      rcases (le_sup f i₀).eq_or_lt with h | h
      · exact Or.inl ⟨0, le_rfl, h.symm⟩
      · refine Or.inr ⟨h, Finset.card_pos.mpr ?_⟩
        rcases sup_mem f with e | ⟨i, e⟩
        · exact absurd (e ▸ h) not_lt_bot
        · exact ⟨i, Finset.mem_filter.mpr ⟨Finset.mem_univ _, e.ge⟩⟩
    | succ r ih =>
      rcases ih with ⟨j, hj, h⟩ | ⟨h, hc⟩
      · exact Or.inl ⟨j, by omega, h⟩
      · rcases (le_below f h).eq_or_lt with e | e
        · exact Or.inl ⟨r + 1, le_rfl, e.symm⟩
        · refine Or.inr ⟨e, lt_of_le_of_lt hc (Finset.card_lt_card ?_)⟩
          rcases below_mem f (top f r) with e' | ⟨i, e', hi⟩
          · exact absurd (e' ▸ e) not_lt_bot
          · refine Finset.ssubset_iff_of_subset (fun k hk => ?_) |>.mpr ⟨i, ?_, ?_⟩
            · rw [Finset.mem_filter] at hk ⊢
              exact ⟨hk.1, (below_le_self f _).trans hk.2⟩
            · exact Finset.mem_filter.mpr ⟨Finset.mem_univ _, e'.ge⟩
            · rw [Finset.mem_filter]; exact fun hk => absurd hk.2 (not_le.mpr hi)
  rcases key (above f (f i₀)) with h | ⟨h, hc⟩
  · exact h
  · exfalso
    have : (Finset.univ.filter fun i => top f (above f (f i₀)) ≤ f i).card ≤ above f (f i₀) :=
      Finset.card_le_card fun k hk => by
        rw [Finset.mem_filter] at hk ⊢
        exact ⟨hk.1, lt_of_lt_of_le h hk.2⟩
    omega

/-! ## A descending arrangement -/

/-- In a descending arrangement at most `k` entries are above entry `k`. -/
theorem above_of_sorted {n : ℕ} (f : Fin n → α) (σ : Fin n → Fin n) (hσ : Function.Surjective σ) (hs : Antitone (f ∘ σ))
    (k : Fin n) : above f (f (σ k)) ≤ k.val := by
  classical
  calc above f (f (σ k)) ≤ ((Finset.Iio k).image σ).card := Finset.card_le_card fun i hi => by
        rw [Finset.mem_filter] at hi
        obtain ⟨m, rfl⟩ := hσ i
        refine Finset.mem_image.mpr ⟨m, Finset.mem_Iio.mpr ?_, rfl⟩
        by_contra hm
        exact absurd hi.2 (not_lt.mpr (hs (not_lt.mp hm)))
    _ ≤ (Finset.Iio k).card := Finset.card_image_le
    _ = k.val := Fin.card_Iio k

/-- The greatest different values of a descending arrangement are at most its entries, ties or not. -/
theorem top_le_of_sorted {n : ℕ} (f : Fin n → α) (σ : Fin n → Fin n) (hσ : Function.Surjective σ) (hs : Antitone (f ∘ σ))
    (j : ℕ) (hj : j < n) : top f j ≤ f (σ ⟨j, hj⟩) := by
  induction j with
  | zero =>
    refine Finset.sup_le fun i _ => ?_
    obtain ⟨m, rfl⟩ := hσ i
    exact hs (show (⟨0, hj⟩ : Fin n) ≤ m from Nat.zero_le _)
  | succ j ih =>
    refine below_le f fun i hi => ?_
    obtain ⟨m, rfl⟩ := hσ i
    refine hs (show (⟨j + 1, hj⟩ : Fin n) ≤ m from ?_)
    by_contra hm
    have hm' : m ≤ (⟨j, by omega⟩ : Fin n) := by
      have : m.val < j + 1 := not_le.mp hm
      exact show m.val ≤ j by omega
    exact absurd (lt_of_lt_of_le hi (ih (by omega))) (not_lt.mpr (hs hm'))

/-- Without ties up to place `j` a descending arrangement lists the greatest different values. -/
theorem top_of_sorted {n : ℕ} (f : Fin n → α) (σ : Fin n → Fin n) (hσ : Function.Surjective σ) (hs : Antitone (f ∘ σ))
    (j : ℕ) (hj : j < n) (hd : ∀ k, (hk : k < j) → f (σ ⟨k + 1, by omega⟩) < f (σ ⟨k, by omega⟩)) :
    top f j = f (σ ⟨j, hj⟩) := by
  refine le_antisymm (top_le_of_sorted f σ hσ hs j hj) ?_
  induction j with
  | zero => exact le_sup f _
  | succ j ih =>
    rw [top_succ, le_antisymm (top_le_of_sorted f σ hσ hs j (by omega)) (ih (by omega) fun k hk => hd k (by omega))]
    exact le_below f (hd j (by omega))

/-- A descending arrangement that is `⊥` from place `j` on has at most `j` entries above any of its greatest different values
but `⊥`. -/
theorem few_of_bot {n : ℕ} (f : Fin n → α) (σ : Fin n → Fin n) (hσ : Function.Surjective σ) (hs : Antitone (f ∘ σ))
    (j : Fin n) (hj : f (σ j) = ⊥) (i : ℕ) : top f i = ⊥ ∨ ∃ c, f c = top f i ∧ above f (f c) ≤ j.val := by
  refine (top_mem f i).imp_right fun ⟨c, hc⟩ => ?_
  obtain ⟨k, rfl⟩ := hσ c
  refine ⟨σ k, hc, ?_⟩
  rcases le_total k j with hk | hk
  · exact (above_of_sorted f σ hσ hs k).trans hk
  · have e : f (σ k) = f (σ j) := (le_bot_iff.mp ((hs hk).trans hj.le)).trans hj.symm
    rw [e]
    exact above_of_sorted f σ hσ hs j

end Cert.TopK.Row
-- ==== Proof.Rows.lean ====
/-
# The rounds of taking the greatest, row by row

On the extended reals, round `j` over a matrix takes in every row that row's `j`-th greatest different entry.
-/
module

public import proofs.«01_k».proof.Proof.Tops
public import proofs.«01_k».proof.Proof.Greatest
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.PureOps.Ideal.Laws

@[expose] public section

noncomputable section

namespace Cert.TopK

open Idealize.ShloMosaic Idealize.ShloMosaic.ValueIdx

/-- A row of a matrix. -/
def rowOf {R C : ℕ} (w : FVec Ideal ⟨2, ![R, C]⟩ .f32) (r : Fin R) : Fin C → EReal := fun c => w (ix2 r c)

theorem negInf : (Ideal.ofBits .f32 0xFF800000#32 : EReal) = ⊥ := by simp [Ideal.ofBits, Ideal.ieee]

section

variable {R C : ℕ} (hR : (⟨2, ![R, C]⟩ : Shape).Reduces [1] ⟨1, ![R]⟩) (hc : (⟨1, ![R]⟩ : Shape).ShapeCasts ⟨2, ![R, 1]⟩)
  (hb : (⟨2, ![R, 1]⟩ : Shape).Broadcasts ⟨2, ![R, C]⟩)

theorem lift_row (r : Fin R) (k : Fin C) : hR.lift (ix1 r) k = ix2 r k := by
  funext a
  refine Fin.ext ?_
  match a with
  | ⟨0, _⟩ => rfl
  | ⟨1, _⟩ => rfl

theorem rowMax_apply (w : FVec Ideal ⟨2, ![R, C]⟩ .f32) (r : Fin R) (u : Fin 1) :
    rowMax R C hR hc w (ix2 r u) = Finset.univ.sup (rowOf w r) := by
  have e : (w ∘ hR.lift (ix1 r) : Fin C → EReal) = rowOf w r := funext fun k => congrArg w (lift_row hR r k)
  refine (shapeCast_a_a1_apply _ hc r u).trans ((Ideal.multiReduction_maximumf_single w 0xFF800000#32 hR (.inl rfl) rfl (ix1 r)).trans ?_)
  exact (congrArg (fun b => Finset.fold max b (w ∘ hR.lift (ix1 r) : Fin C → EReal) Finset.univ) negInf).trans
    (congrArg (fun f => Finset.fold max (⊥ : EReal) f Finset.univ) e)

theorem rowOf_dropMax (w : FVec Ideal ⟨2, ![R, C]⟩ .f32) (r : Fin R) : rowOf (dropMax R C hR hc hb w) r = Row.strike (rowOf w r) := by
  funext c
  have e : broadcastTo ⟨2, ![R, C]⟩ (rowMax R C hR hc w) hb (ix2 r c) = Finset.univ.sup (rowOf w r) := by
    rw [broadcastTo_apply (rowMax R C hR hc w) hb (ix2 r c) (ix2 r (0 : Fin 1)) (fun a => by
      match a with
      | ⟨0, _⟩ =>
        show r.val = if R = 1 then 0 else r.val
        split
        · have := r.isLt; omega
        · rfl
      | ⟨1, _⟩ => rfl)]
    exact rowMax_apply hR hc w r 0
  show (if Ideal.cmp .oeq (w (ix2 r c)) (broadcastTo ⟨2, ![R, C]⟩ (rowMax R C hR hc w) hb (ix2 r c)) = 1#1
      then Ideal.ofBits .f32 0xFF800000#32 else w (ix2 r c)) = if w (ix2 r c) = Finset.univ.sup (rowOf w r) then ⊥ else w (ix2 r c)
  rw [e, negInf]
  by_cases h : w (ix2 r c) = Finset.univ.sup (rowOf w r)
  · rw [if_pos h, if_pos]; simp [Ideal.cmp, h]
  · rw [if_neg h, if_neg]; simp [Ideal.cmp, h]

theorem rowOf_remain (w : FVec Ideal ⟨2, ![R, C]⟩ .f32) (j : ℕ) (r : Fin R) :
    rowOf (remain R C hR hc hb w j) r = Row.strike^[j] (rowOf w r) := by
  induction j with
  | zero => rfl
  | succ j ih => rw [Function.iterate_succ_apply', ← ih]; exact rowOf_dropMax hR hc hb _ r

theorem taken_apply (w : FVec Ideal ⟨2, ![R, C]⟩ .f32) (j : ℕ) (r : Fin R) (u : Fin 1) :
    taken R C hR hc hb w j (ix2 r u) = Row.top (rowOf w r) j := by
  unfold taken
  rw [rowMax_apply, rowOf_remain, Row.sup_iterate_strike]

theorem rounds_apply (h32 : Shape.Concatenates (List.replicate 32 (⟨2, ![R, 1]⟩ : Shape)) ⟨2, ![R, 32]⟩ 1)
    (w : FVec Ideal ⟨2, ![R, C]⟩ .f32) (r : Fin R) (j : Fin 32) :
    rounds R C hR hc hb h32 w (ix2 r j) = Row.top (rowOf w r) j.val := by
  rw [← taken_apply hR hc hb w j.val r 0]
  exact concatenate_ofFn_apply (t := ⟨2, ![R, 32]⟩) (s₁ := ⟨2, ![R, 1]⟩) 1 (fun n : Fin 32 => taken R C hR hc hb w n.val) h32 rfl 1 rfl
    (ix2 r j) j (Nat.div_one _) (ix2 r (0 : Fin 1)) (Nat.mod_one _).symm fun b hb' => by
      match b with
      | ⟨0, _⟩ => rfl
      | ⟨1, _⟩ => exact absurd rfl hb'

end

end Cert.TopK
-- ==== Proof.Sorted.lean ====
/-
# The tree networks sort

`Tr.merge max min` on a tree of numbers is Batcher's descending merge on the vector of its leaves, so a tree that descends and
then ascends (or the other way round) comes out descending; `Tr.sort` comes out in the order asked for. Neither changes the
collection of leaves.-/
module

public import proofs.«01_k».proof.Proof.Net
public import Idealize.ShloMosaic.Lib.SortNet.Sorts
public import Idealize.ShloMosaic.Lib.SortNet.Fold

@[expose] public section

namespace Cert.TopK.Tr

open Idealize.ShloMosaic.SortNet

variable {α β : Type}

/-! ## Leaves by number -/

/-- Leaf number `i`. -/
def leaf (n : ℕ) (t : Tr α n) (i : Fin (2 ^ n)) : α := get n t i.val

/-- The two halves of a tree. -/
def lo (n : ℕ) (t : Tr α (n + 1)) : Tr α n := t.1
def hi (n : ℕ) (t : Tr α (n + 1)) : Tr α n := t.2

theorem leaf_lower (n : ℕ) (t : Tr α (n + 1)) (j : Fin (2 ^ n)) : leaf (n + 1) t (lowerPos n j) = leaf n (lo n t) j :=
  if_pos j.isLt

theorem leaf_upper (n : ℕ) (t : Tr α (n + 1)) (j : Fin (2 ^ n)) : leaf (n + 1) t (upperPos n j) = leaf n (hi n t) j := by
  show (if j.val + 2 ^ n < 2 ^ n then get n (lo n t) (j.val + 2 ^ n) else get n (hi n t) (j.val + 2 ^ n - 2 ^ n)) = get n (hi n t) j.val
  rw [if_neg (by omega), Nat.add_sub_cancel]

/-- The tree of two halves. -/
def node (n : ℕ) (s t : Tr α n) : Tr α (n + 1) := (s, t)

theorem leaf_node_lower (n : ℕ) (s t : Tr α n) (j : Fin (2 ^ n)) : leaf (n + 1) (node n s t) (lowerPos n j) = leaf n s j :=
  leaf_lower n (node n s t) j

theorem leaf_node_upper (n : ℕ) (s t : Tr α n) (j : Fin (2 ^ n)) : leaf (n + 1) (node n s t) (upperPos n j) = leaf n t j :=
  leaf_upper n (node n s t) j

/-- A statement about every place of two halves, from the two halves. -/
theorem forall_halves {n : ℕ} {P : Fin (2 ^ (n + 1)) → Prop} (h₁ : ∀ j, P (lowerPos n j)) (h₂ : ∀ j, P (upperPos n j))
    (i : Fin (2 ^ (n + 1))) : P i := by
  by_cases h : i.val < 2 ^ n
  · rw [eq_lowerPos i h]; exact h₁ _
  · rw [eq_upperPos i h]; exact h₂ _

theorem leaf_zip (f : α → α → α) (n : ℕ) (s t : Tr α n) (i : Fin (2 ^ n)) : leaf n (zip f n s t) i = f (leaf n s i) (leaf n t i) := by
  induction n with
  | zero => rfl
  | succ n ih =>
    revert i
    refine forall_halves (fun j => ?_) fun j => ?_
    · rw [leaf_lower, leaf_lower, leaf_lower]; exact ih _ _ j
    · rw [leaf_upper, leaf_upper, leaf_upper]; exact ih _ _ j

theorem leaf_map (f : α → β) (n : ℕ) (t : Tr α n) (i : Fin (2 ^ n)) : leaf n (map f n t) i = f (leaf n t i) := by
  induction n with
  | zero => rfl
  | succ n ih =>
    revert i
    refine forall_halves (fun j => ?_) fun j => ?_
    · rw [leaf_lower, leaf_lower]; exact ih _ j
    · rw [leaf_upper, leaf_upper]; exact ih _ j

theorem leaf_rev (n : ℕ) (t : Tr α n) (i : Fin (2 ^ n)) : leaf n (rev n t) i = leaf n t i.rev := by
  induction n with
  | zero => rfl
  | succ n ih =>
    revert i
    refine forall_halves (fun j => ?_) fun j => ?_
    · rw [leaf_lower, show (lowerPos n j).rev = upperPos n j.rev from Fin.ext (by
        have := j.isLt; rw [Fin.val_rev, upperPos_val, lowerPos_val, Fin.val_rev, Nat.pow_succ]; omega), leaf_upper]
      exact ih _ j
    · rw [leaf_upper, show (upperPos n j).rev = lowerPos n j.rev from Fin.ext (by
        have := j.isLt; rw [Fin.val_rev, upperPos_val, lowerPos_val, Fin.val_rev, Nat.pow_succ]; omega), leaf_lower]
      exact ih _ j

theorem leaf_build (f : ℕ → α) (n off : ℕ) (i : Fin (2 ^ n)) : leaf n (build f n off) i = f (off + i.val) := by
  induction n generalizing off with
  | zero =>
    have e : i.val = 0 := by have h : i.val < 1 := i.isLt; omega
    rw [e]; rfl
  | succ n ih =>
    revert i
    refine forall_halves (fun j => ?_) fun j => ?_
    · rw [leaf_lower]; exact ih off j
    · rw [leaf_upper, show off + (upperPos n j).val = off + 2 ^ n + j.val by rw [upperPos_val]; omega]; exact ih _ j

/-! ## The networks commute with reading one entry of every register -/

theorem map_zip (h : α → β) (f : α → α → α) (g : β → β → β) (hfg : ∀ a b, h (f a b) = g (h a) (h b)) (n : ℕ) (s t : Tr α n) :
    map h n (zip f n s t) = zip g n (map h n s) (map h n t) := by
  induction n with
  | zero => exact hfg s t
  | succ n ih => exact Prod.ext (ih (lo n s) (lo n t)) (ih (hi n s) (hi n t))

theorem map_merge (h : α → β) (f f' : α → α → α) (g g' : β → β → β) (hfg : ∀ a b, h (f a b) = g (h a) (h b))
    (hfg' : ∀ a b, h (f' a b) = g' (h a) (h b)) (n : ℕ) (t : Tr α n) :
    map h n (merge f f' n t) = merge g g' n (map h n t) := by
  induction n with
  | zero => rfl
  | succ n ih =>
    refine Prod.ext ?_ ?_
    · show map h n (merge f f' n (zip f n (lo n t) (hi n t))) = merge g g' n (zip g n (map h n (lo n t)) (map h n (hi n t)))
      rw [ih, map_zip h f g hfg]
    · show map h n (merge f f' n (zip f' n (lo n t) (hi n t))) = merge g g' n (zip g' n (map h n (lo n t)) (map h n (hi n t)))
      rw [ih, map_zip h f' g' hfg']

theorem map_sort (h : α → β) (f f' : α → α → α) (g g' : β → β → β) (hfg : ∀ a b, h (f a b) = g (h a) (h b))
    (hfg' : ∀ a b, h (f' a b) = g' (h a) (h b)) (n : ℕ) (desc : Bool) (t : Tr α n) :
    map h n (sort f f' n desc t) = sort g g' n desc (map h n t) := by
  induction n generalizing desc with
  | zero => rfl
  | succ n ih =>
    have e : map h (n + 1) (node n (sort f f' n true (lo n t)) (sort f f' n false (hi n t)))
        = node n (sort g g' n true (map h n (lo n t))) (sort g g' n false (map h n (hi n t))) :=
      Prod.ext (ih true (lo n t)) (ih false (hi n t))
    cases desc
    · exact (map_merge h f' f g' g hfg' hfg (n + 1) _).trans (congrArg _ e)
    · exact (map_merge h f f' g g' hfg hfg' (n + 1) _).trans (congrArg _ e)

/-! ## The networks on numbers -/

section order

variable [LinearOrder α]

theorem leaf_merge (n : ℕ) (t : Tr α n) : leaf n (merge max min n t) = Network.apply (mergeDescNet n) (leaf n t) := by
  induction n with
  | zero => rfl
  | succ n ih =>
    funext i
    revert i
    refine forall_halves (fun j => ?_) fun j => ?_
    · rw [leaf_lower, (apply_mergeDescNet_succ n _ j).1]
      refine (congrFun (ih (zip max n (lo n t) (hi n t))) j).trans (congrArg (fun w => Network.apply (mergeDescNet n) w j) (funext fun k => ?_))
      rw [leaf_zip, leaf_lower, leaf_upper]
    · rw [leaf_upper, (apply_mergeDescNet_succ n _ j).2]
      refine (congrFun (ih (zip min n (lo n t) (hi n t))) j).trans (congrArg (fun w => Network.apply (mergeDescNet n) w j) (funext fun k => ?_))
      rw [leaf_zip, leaf_lower, leaf_upper]

/-- The merge leaves the leaves it was given, in some order. -/
theorem merge_perm (n : ℕ) (t : Tr α n) : ∃ σ : Equiv.Perm (Fin (2 ^ n)), leaf n (merge max min n t) = leaf n t ∘ σ := by
  rw [leaf_merge]; exact Network.exists_perm _ _

theorem merge_antitone (n : ℕ) (t : Tr α n) (h : DescAsc (leaf n t)) : Antitone (leaf n (merge max min n t)) := by
  rw [leaf_merge]; exact mergeDescNet_apply_antitone n _ h

/-- The ascending merge is the descending one in the opposite order. -/
theorem merge_monotone (n : ℕ) (t : Tr α n) (h : DescAsc (leaf n t)) : Monotone (leaf n (merge min max n t)) :=
  fun i j hij => merge_antitone (α := αᵒᵈ) n t h.dual hij

theorem merge_perm' (n : ℕ) (t : Tr α n) : ∃ σ : Equiv.Perm (Fin (2 ^ n)), leaf n (merge min max n t) = leaf n t ∘ σ :=
  merge_perm (α := αᵒᵈ) n t

/-- A descending half followed by an ascending one. -/
theorem descAsc_halves (n : ℕ) (s t : Tr α n) (hs : Antitone (leaf n s)) (ht : Monotone (leaf n t)) :
    DescAsc (leaf (n + 1) (node n s t)) := by
  refine ⟨2 ^ n, Or.inl ⟨?_, ?_⟩⟩
  · refine forall_halves (fun i => forall_halves (fun j hij _ => ?_) fun j _ hj => ?_) fun i => forall_halves (fun j hij _ => ?_) fun j _ hj => ?_
    · rw [leaf_node_lower, leaf_node_lower]; exact hs hij
    · rw [upperPos_val] at hj; omega
    · have h : (upperPos n i).val ≤ (lowerPos n j).val := hij
      rw [upperPos_val, lowerPos_val] at h; have := j.isLt; omega
    · rw [upperPos_val] at hj; omega
  · refine forall_halves (fun i j _ hi => ?_) fun i => forall_halves (fun j hij _ => ?_) fun j hij _ => ?_
    · rw [lowerPos_val] at hi; have := i.isLt; omega
    · have h : (upperPos n i).val ≤ (lowerPos n j).val := hij
      rw [upperPos_val, lowerPos_val] at h; have := j.isLt; omega
    · have h : (upperPos n i).val ≤ (upperPos n j).val := hij
      rw [upperPos_val, upperPos_val] at h
      rw [leaf_node_upper, leaf_node_upper]; exact ht (show i.val ≤ j.val by omega)

theorem sort_sorts (n : ℕ) (t : Tr α n) :
    Antitone (leaf n (sort max min n true t)) ∧ Monotone (leaf n (sort max min n false t)) := by
  induction n with
  | zero => exact ⟨fun i j _ => le_of_eq rfl, fun i j _ => le_of_eq rfl⟩
  | succ n ih =>
    have h := descAsc_halves n _ _ (ih (lo n t)).1 (ih (hi n t)).2
    exact ⟨merge_antitone (n + 1) _ h, merge_monotone (n + 1) _ h⟩

/-- Two halves each rearranged. -/
theorem perm_halves (n : ℕ) (s t : Tr α (n + 1)) (h₁ : ∃ σ : Equiv.Perm (Fin (2 ^ n)), leaf n (lo n t) = leaf n (lo n s) ∘ σ)
    (h₂ : ∃ σ : Equiv.Perm (Fin (2 ^ n)), leaf n (hi n t) = leaf n (hi n s) ∘ σ) :
    ∃ σ : Equiv.Perm (Fin (2 ^ (n + 1))), leaf (n + 1) t = leaf (n + 1) s ∘ σ := by
  obtain ⟨σ, hσ⟩ := h₁
  obtain ⟨τ, hτ⟩ := h₂
  let f : Fin (2 ^ (n + 1)) → Fin (2 ^ (n + 1)) := fun i =>
    if h : i.val < 2 ^ n then lowerPos n (σ ⟨i.val, h⟩)
    else upperPos n (τ ⟨i.val - 2 ^ n, by have := i.isLt; have e : 2 ^ (n + 1) = 2 ^ n * 2 := Nat.pow_succ 2 n; omega⟩)
  have fl : ∀ j, f (lowerPos n j) = lowerPos n (σ j) := fun j => dif_pos j.isLt
  have fu : ∀ j, f (upperPos n j) = upperPos n (τ j) := fun j => by
    refine (dif_neg (show ¬(upperPos n j).val < 2 ^ n by rw [upperPos_val]; omega)).trans (congrArg (fun k => upperPos n (τ k)) (Fin.ext ?_))
    show (upperPos n j).val - 2 ^ n = j.val
    rw [upperPos_val, Nat.add_sub_cancel]
  have hf : Function.Surjective f := by
    refine forall_halves (fun j => ⟨lowerPos n (σ.symm j), by rw [fl, Equiv.apply_symm_apply]⟩)
      fun j => ⟨upperPos n (τ.symm j), by rw [fu, Equiv.apply_symm_apply]⟩
  refine ⟨Equiv.ofBijective f ⟨Finite.injective_iff_surjective.mpr hf, hf⟩, funext (forall_halves (fun j => ?_) fun j => ?_)⟩
  · show _ = leaf (n + 1) s (f (lowerPos n j))
    rw [fl, leaf_lower, leaf_lower, hσ]; rfl
  · show _ = leaf (n + 1) s (f (upperPos n j))
    rw [fu, leaf_upper, leaf_upper, hτ]; rfl

theorem sort_perm (n : ℕ) (desc : Bool) (t : Tr α n) :
    ∃ σ : Equiv.Perm (Fin (2 ^ n)), leaf n (sort max min n desc t) = leaf n t ∘ σ := by
  induction n generalizing desc with
  | zero => exact ⟨1, rfl⟩
  | succ n ih =>
    obtain ⟨σ, hσ⟩ := perm_halves n t (node n (sort max min n true (lo n t)) (sort max min n false (hi n t))) (ih true (lo n t)) (ih false (hi n t))
    cases desc
    · obtain ⟨τ, hτ⟩ := merge_perm' (n + 1) (node n (sort max min n true (lo n t)) (sort max min n false (hi n t)))
      exact ⟨τ.trans σ, hτ.trans (by rw [hσ]; rfl)⟩
    · obtain ⟨τ, hτ⟩ := merge_perm (n + 1) (node n (sort max min n true (lo n t)) (sort max min n false (hi n t)))
      exact ⟨τ.trans σ, hτ.trans (by rw [hσ]; rfl)⟩

end order

end Cert.TopK.Tr
-- ==== Proof.Keep.lean ====
/-
# Halving the lanes loses none of the greatest entries

Descending columns side by side, one per lane. A halving puts the column of lane `l` against that of lane `M + l` upside down and
keeps the greater of the two at every place, and sorts again. With `n` places in a column, a value with fewer than `n` entries above it
stays: if `p` entries of its own column and `q` of the other are above it, `p + q < n`, so the place it sits at faces an entry that
is not above it.
-/
module

public import proofs.«01_k».proof.Proof.Greatest
public import Mathlib.Algebra.BigOperators.Fin
public import Mathlib.Data.Fintype.Prod
public import Mathlib.Algebra.Order.BigOperators.Group.Finset

@[expose] public section

namespace Cert.TopK.Row

variable {α : Type} [LinearOrder α] {ι κ : Type} [Fintype ι] [Fintype κ]

theorem above_comp_injective (f : ι → α) (e : κ → ι) (he : Function.Injective e) (v : α) : above (f ∘ e) v ≤ above f v := by
  classical
  refine (Finset.card_image_of_injective _ he).symm.le.trans (Finset.card_le_card fun i hi => ?_)
  obtain ⟨k, hk, rfl⟩ := Finset.mem_image.mp hi
  rw [Finset.mem_filter] at hk
  exact Finset.mem_filter.mpr ⟨Finset.mem_univ _, hk.2⟩

theorem above_perm (f : ι → α) (σ : Equiv.Perm ι) (v : α) : above (f ∘ σ) v = above f v :=
  le_antisymm (above_comp_injective f σ σ.injective v) (by
    have h := above_comp_injective (f ∘ σ) σ.symm σ.symm.injective v
    rwa [Function.comp_assoc, Equiv.self_comp_symm, Function.comp_id] at h)

theorem above_max_le (f g : ι → α) (v : α) : above (fun i => max (f i) (g i)) v ≤ above f v + above g v := by
  classical
  refine (Finset.card_le_card fun i hi => ?_).trans (Finset.card_union_le _ _)
  rw [Finset.mem_filter] at hi
  rcases lt_max_iff.mp hi.2 with h | h
  · exact Finset.mem_union_left _ (Finset.mem_filter.mpr ⟨Finset.mem_univ _, h⟩)
  · exact Finset.mem_union_right _ (Finset.mem_filter.mpr ⟨Finset.mem_univ _, h⟩)

theorem above_prod {L n : ℕ} (C : Fin L → Fin n → α) (v : α) :
    above (fun p : Fin L × Fin n => C p.1 p.2) v = ∑ l, above (C l) v := by
  unfold above
  simp only [Finset.card_filter]
  exact Fintype.sum_prod_type _

/-- In a descending column exactly the first `above f v` places hold entries above `v`. -/
theorem lt_iff_of_antitone {n : ℕ} (f : Fin n → α) (hf : Antitone f) (v : α) (k : Fin n) : v < f k ↔ k.val < above f v := by
  constructor
  · intro h
    have : (Finset.Iic k).card ≤ above f v := Finset.card_le_card fun i hi => by
      rw [Finset.mem_Iic] at hi
      exact Finset.mem_filter.mpr ⟨Finset.mem_univ _, lt_of_lt_of_le h (hf hi)⟩
    rw [Fin.card_Iic] at this
    omega
  · intro h
    by_contra hk
    have : above f v ≤ (Finset.Iio k).card := Finset.card_le_card fun i hi => by
      rw [Finset.mem_filter] at hi
      rw [Finset.mem_Iio]
      by_contra hi'
      exact hk (lt_of_lt_of_le hi.2 (hf (not_lt.mp hi')))
    rw [Fin.card_Iio] at this
    omega

/-- A value of a descending column sits right after the entries above it. -/
theorem eq_at_above {n : ℕ} (f : Fin n → α) (hf : Antitone f) (p : Fin n) :
    ∃ h : above f (f p) < n, f ⟨above f (f p), h⟩ = f p := by
  have h1 : ¬p.val < above f (f p) := fun h => lt_irrefl _ ((lt_iff_of_antitone f hf (f p) p).mpr h)
  have h2 : above f (f p) < n := by have := p.isLt; omega
  refine ⟨h2, le_antisymm (not_lt.mp fun h => ?_) (hf (show above f (f p) ≤ p.val by omega))⟩
  exact lt_irrefl _ ((lt_iff_of_antitone f hf (f p) _).mp h)

/-- The columns descend, and hold `v` with fewer than `n` entries above it. -/
structure Holds {L n : ℕ} (C : Fin L → Fin n → α) (v : α) : Prop where
  desc : ∀ l, Antitone (C l)
  mem : ∃ l k, C l k = v
  few : above (fun p : Fin L × Fin n => C p.1 p.2) v < n

/-- Two columns against each other, the second upside down. -/
def face {n : ℕ} (a b : Fin n → α) : Fin n → α := fun k => max (a k) (b k.rev)

theorem above_face_le {n : ℕ} (a b : Fin n → α) (v : α) : above (face a b) v ≤ above a v + above b v :=
  (above_max_le a (fun k => b k.rev) v).trans
    (Nat.add_le_add_left (above_comp_injective b Fin.rev Fin.rev_injective v) _)

theorem mem_face {n : ℕ} (a b : Fin n → α) (ha : Antitone a) (hb : Antitone b) (v : α) (h : above a v + above b v < n)
    (hv : (∃ k, a k = v) ∨ ∃ k, b k = v) : ∃ k, face a b k = v := by
  rcases hv with ⟨p, rfl⟩ | ⟨p, rfl⟩
  · obtain ⟨hq, e⟩ := eq_at_above a ha p
    refine ⟨⟨_, hq⟩, ?_⟩
    show max (a ⟨_, hq⟩) (b _) = a p
    rw [e]
    refine max_eq_left (not_lt.mp fun hlt => ?_)
    have := (lt_iff_of_antitone b hb (a p) _).mp hlt
    rw [Fin.val_rev] at this
    show False
    dsimp only at this
    omega
  · obtain ⟨hq, e⟩ := eq_at_above b hb p
    refine ⟨(⟨_, hq⟩ : Fin n).rev, ?_⟩
    show max (a _) (b (Fin.rev _)) = b p
    rw [Fin.rev_rev, e]
    refine max_eq_right (not_lt.mp fun hlt => ?_)
    have := (lt_iff_of_antitone a ha (b p) _).mp hlt
    rw [Fin.val_rev] at this
    dsimp only at this
    omega

/-- One halving. -/
theorem Holds.halve {M n : ℕ} {C : Fin (M + M) → Fin n → α} {D : Fin M → Fin n → α} (hD : ∀ l, Antitone (D l))
    (hp : ∀ l, ∃ σ : Equiv.Perm (Fin n), D l = face (C (Fin.castAdd M l)) (C (Fin.natAdd M l)) ∘ σ) {v : α} (h : Holds C v) :
    Holds D v := by
  have hsum : ∑ l, (above (C (Fin.castAdd M l)) v + above (C (Fin.natAdd M l)) v) < n := by
    have := h.few
    rw [above_prod, Fin.sum_univ_add] at this
    rwa [Finset.sum_add_distrib]
  refine ⟨hD, ?_, ?_⟩
  · obtain ⟨l, k, hv⟩ := h.mem
    have key : ∀ l' : Fin M, ((∃ k, C (Fin.castAdd M l') k = v) ∨ ∃ k, C (Fin.natAdd M l') k = v) → ∃ l k, D l k = v := by
      intro l' hv'
      have hl := Finset.single_le_sum (f := fun l => above (C (Fin.castAdd M l)) v + above (C (Fin.natAdd M l)) v)
        (fun _ _ => Nat.zero_le _) (Finset.mem_univ l')
      obtain ⟨k', hk'⟩ := mem_face _ _ (h.desc _) (h.desc _) v (lt_of_le_of_lt hl hsum) hv'
      obtain ⟨σ, hσ⟩ := hp l'
      exact ⟨l', σ.symm k', by rw [hσ, Function.comp_apply, Equiv.apply_symm_apply, hk']⟩
    refine Fin.addCases (fun l' hv => ?_) (fun l' hv => ?_) l hv
    · exact key l' (Or.inl ⟨k, hv⟩)
    · exact key l' (Or.inr ⟨k, hv⟩)
  · rw [above_prod]
    refine lt_of_le_of_lt (Finset.sum_le_sum fun l _ => ?_) hsum
    obtain ⟨σ, hσ⟩ := hp l
    rw [hσ, above_perm]
    exact above_face_le _ _ v

/-- What a halving leaves was there before. -/
theorem halve_mem {M n : ℕ} {C : Fin (M + M) → Fin n → α} {D : Fin M → Fin n → α}
    (hp : ∀ l, ∃ σ : Equiv.Perm (Fin n), D l = face (C (Fin.castAdd M l)) (C (Fin.natAdd M l)) ∘ σ) (l : Fin M) (k : Fin n) :
    ∃ l' k', D l k = C l' k' := by
  obtain ⟨σ, hσ⟩ := hp l
  rw [hσ]
  show ∃ l' k', max _ _ = _
  rcases max_choice (C (Fin.castAdd M l) (σ k)) (C (Fin.natAdd M l) (σ k).rev) with h | h
  · exact ⟨_, _, h⟩
  · exact ⟨_, _, h⟩

end Cert.TopK.Row
-- ==== Proof.Chunk.lean ====
/-
# A chunk's candidates keep the greatest entries of every row

The 32 column slices of a block are sorted lane by lane, the lanes halved five times, and 32 rounds run over the 256 entries left a
row. Every candidate is an entry of the row (or `⊥`), and an entry with fewer than 32 entries above it in the row is a candidate.
-/
module

public import proofs.«01_k».proof.Proof.Rows
public import proofs.«01_k».proof.Proof.Sorted
public import proofs.«01_k».proof.Proof.Keep

@[expose] public section

noncomputable section

namespace Cert.TopK

open Cert.KernelIdeal Cert.KernelIdeal.Gen Idealize.ShloMosaic Idealize.ShloMosaic.ValueIdx Idealize.ShloMosaic.SortNet

/-- Row `r`, lane `l` of the registers of a tree, top to bottom. -/
def col {R L : ℕ} (T : Tr (FVec Ideal ⟨2, ![R, L]⟩ .f32) 5) (r : Fin R) (l : Fin L) : Fin 32 → EReal :=
  Tr.leaf 5 (Tr.map (fun a => a (ix2 r l)) 5 T)

theorem col_apply {R L : ℕ} (T : Tr (FVec Ideal ⟨2, ![R, L]⟩ .f32) 5) (r : Fin R) (l : Fin L) (k : Fin 32) :
    col T r l k = Tr.leaf 5 T k (ix2 r l) := Tr.leaf_map _ 5 T k

/-- One halving of the lanes: every column faces its partner's, upside down, and is sorted again. -/
theorem col_cut {R M : ℕ} (h₀ : (⟨2, ![R, M + M]⟩ : Shape).Slices ![0, 0] ⟨2, ![R, M]⟩)
    (h₁ : (⟨2, ![R, M + M]⟩ : Shape).Slices ![0, M] ⟨2, ![R, M]⟩) (T : Tr (FVec Ideal ⟨2, ![R, M + M]⟩ .f32) 5) (r : Fin R)
    (hT : ∀ l, Antitone (col T r l)) (l : Fin M) :
    Antitone (col (cut 5 ![0, 0] ![0, M] h₀ h₁ T) r l) ∧
      ∃ σ : Equiv.Perm (Fin 32), col (cut 5 ![0, 0] ![0, M] h₀ h₁ T) r l
        = Row.face (col T r (Fin.castAdd M l)) (col T r (Fin.natAdd M l)) ∘ σ := by
  let A : Tr (FVec Ideal ⟨2, ![R, M]⟩ .f32) 5 := Tr.zip maximumf 5 (Tr.map (fun a => extractStridedSlice ⟨2, ![R, M]⟩ ![0, 0] a h₀) 5 T)
    (Tr.map (fun a => extractStridedSlice ⟨2, ![R, M]⟩ ![0, M] a h₁) 5 (Tr.rev 5 T))
  have e : col (cut 5 ![0, 0] ![0, M] h₀ h₁ T) r l
      = Tr.leaf 5 (Tr.merge max min 5 (Tr.map (fun a => a (ix2 r l)) 5 A)) :=
    congrArg (Tr.leaf 5) (Tr.map_merge (fun a : FVec Ideal ⟨2, ![R, M]⟩ .f32 => a (ix2 r l)) maximumf minimumf max min
      (fun _ _ => rfl) (fun _ _ => rfl) 5 A)
  have eA : Tr.leaf 5 (Tr.map (fun a => a (ix2 r l)) 5 A)
      = Row.face (col T r (Fin.castAdd M l)) (col T r (Fin.natAdd M l)) := by
    funext k
    rw [Tr.leaf_map, Tr.leaf_zip, Tr.leaf_map, Tr.leaf_map, Tr.leaf_rev]
    show max _ _ = max (col T r (Fin.castAdd M l) k) (col T r (Fin.natAdd M l) (Fin.rev k))
    rw [col_apply, col_apply]
    congr 1
    · exact slice2_axis1_apply 0 _ h₀ r l (Fin.castAdd M l) (by rw [Nat.zero_add]; rfl)
    · exact slice2_axis1_apply M _ h₁ r l (Fin.natAdd M l) rfl
  rw [e]
  refine ⟨Tr.merge_antitone 5 _ ?_, ?_⟩
  · rw [eA]
    exact descAsc_max _ _ (hT _) fun i j hij => hT _ (Fin.rev_le_rev.mpr hij)
  · obtain ⟨σ, hσ⟩ := Tr.merge_perm 5 (Tr.map (fun a => a (ix2 r l)) 5 A)
    exact ⟨σ, by rw [hσ, eA]⟩

/-- What a halving needs and gives, for one row: descending columns of entries of `X`, holding every entry of `X` with fewer than
32 above it. -/
structure Keeps {L : ℕ} (C : Fin L → Fin 32 → EReal) {N : ℕ} (X : Fin N → EReal) : Prop where
  desc : ∀ l, Antitone (C l)
  from_row : ∀ l k, ∃ c, C l k = X c
  holds : ∀ c, Row.above X (X c) < 32 → Row.Holds C (X c)

theorem Keeps.cut {R M N : ℕ} (h₀ : (⟨2, ![R, M + M]⟩ : Shape).Slices ![0, 0] ⟨2, ![R, M]⟩)
    (h₁ : (⟨2, ![R, M + M]⟩ : Shape).Slices ![0, M] ⟨2, ![R, M]⟩) (T : Tr (FVec Ideal ⟨2, ![R, M + M]⟩ .f32) 5) (r : Fin R)
    {X : Fin N → EReal} (h : Keeps (col T r) X) : Keeps (col (TopK.cut 5 ![0, 0] ![0, M] h₀ h₁ T) r) X where
  desc l := (col_cut h₀ h₁ T r h.desc l).1
  from_row l k := by
    obtain ⟨l', k', e⟩ := Row.halve_mem (fun l => (col_cut h₀ h₁ T r h.desc l).2) l k
    rw [e]; exact h.from_row l' k'
  holds c hc := Row.Holds.halve (fun l => (col_cut h₀ h₁ T r h.desc l).1) (fun l => (col_cut h₀ h₁ T r h.desc l).2) (h.holds c hc)

/-- The slices sorted lane by lane. -/
theorem keeps_sorted (v : FVec Ideal S128x8192 .f32) (r : Fin 128) :
    Keeps (col (R := 128) (L := 256) (Tr.sort maximumf minimumf 5 true (slots v)) r) (rowOf (R := 128) (C := 8192) v r) := by
  let raw : Fin 256 → Fin 32 → EReal := fun l k => rowOf (R := 128) (C := 8192) v r ⟨256 * k.val + l.val, by have := k.isLt; have := l.isLt; omega⟩
  have e : ∀ l, col (R := 128) (L := 256) (Tr.sort maximumf minimumf 5 true (slots v)) r l
      = Tr.leaf 5 (Tr.sort max min 5 true (Tr.map (fun a : FVec Ideal S128x256 .f32 => a (ix2 (n0 := 128) (n1 := 256) r l)) 5 (slots v))) := fun l =>
    congrArg (Tr.leaf 5) (Tr.map_sort (fun a : FVec Ideal S128x256 .f32 => a (ix2 (n0 := 128) (n1 := 256) r l)) maximumf minimumf max min
      (fun _ _ => rfl) (fun _ _ => rfl) 5 true (slots v))
  have eraw : ∀ l, Tr.leaf 5 (Tr.map (fun a : FVec Ideal S128x256 .f32 => a (ix2 (n0 := 128) (n1 := 256) r l)) 5 (slots v)) = raw l := by
    intro l
    funext k
    have hk : (0 + k.val) % 32 = k.val := by rw [Nat.zero_add]; exact Nat.mod_eq_of_lt k.isLt
    rw [Tr.leaf_map]
    unfold slots
    rw [Tr.leaf_build]
    exact slice2_axis1_apply _ v _ r l _ (by rw [hk])
  have hp : ∀ l, ∃ σ : Equiv.Perm (Fin 32), col (R := 128) (L := 256) (Tr.sort maximumf minimumf 5 true (slots v)) r l = raw l ∘ σ := fun l => by
    obtain ⟨σ, hσ⟩ := Tr.sort_perm 5 true (Tr.map (fun a : FVec Ideal S128x256 .f32 => a (ix2 (n0 := 128) (n1 := 256) r l)) 5 (slots v))
    exact ⟨σ, by rw [e, hσ, eraw]⟩
  have hd : ∀ l, Antitone (col (R := 128) (L := 256) (Tr.sort maximumf minimumf 5 true (slots v)) r l) := fun l => by
    rw [e]; exact (Tr.sort_sorts 5 _).1
  refine ⟨hd, fun l k => ?_, fun c hc => ⟨hd, ?_, ?_⟩⟩
  · obtain ⟨σ, hσ⟩ := hp l
    exact ⟨_, congrFun hσ k⟩
  · have hc' := c.isLt
    obtain ⟨σ, hσ⟩ := hp ⟨c.val % 256, Nat.mod_lt _ (by decide)⟩
    refine ⟨_, σ.symm ⟨c.val / 256, by omega⟩, (congrFun hσ _).trans ?_⟩
    rw [Function.comp_apply, Equiv.apply_symm_apply]
    exact congrArg (rowOf (R := 128) (C := 8192) v r) (Fin.ext (Nat.div_add_mod c.val 256))
  · refine lt_of_le_of_lt ?_ hc
    rw [Row.above_prod]
    refine (Finset.sum_congr rfl fun l _ => ?_).le.trans ((Row.above_prod raw _).symm.le.trans
      (Row.above_comp_injective (rowOf (R := 128) (C := 8192) v r)
        (fun p : Fin 256 × Fin 32 => ⟨256 * p.2.val + p.1.val, by have := p.2.isLt; have := p.1.isLt; omega⟩) ?_ _))
    · obtain ⟨σ, hσ⟩ := hp l
      rw [hσ, Row.above_perm]
    · rintro ⟨a, b⟩ ⟨a', b'⟩ hab
      have h := congrArg Fin.val hab
      dsimp only at h
      have := a.isLt; have := a'.isLt
      exact Prod.ext (Fin.ext (by show a.val = a'.val; omega)) (Fin.ext (by show b.val = b'.val; omega))

/-- … and cut to eight lanes. -/
theorem keeps_narrow (v : FVec Ideal S128x8192 .f32) (r : Fin 128) :
    Keeps (col (R := 128) (L := 8) (narrow v) r) (rowOf (R := 128) (C := 8192) v r) :=
  Keeps.cut (M := 8) _ _ _ r (Keeps.cut (M := 16) _ _ _ r (Keeps.cut (M := 32) _ _ _ r (Keeps.cut (M := 64) _ _ _ r
    (Keeps.cut (M := 128) _ _ _ r (keeps_sorted v r)))))

theorem beside_apply (T : Tr (FVec Ideal S128x8 .f32) 5) (r : Fin 128) (c : Fin 256) :
    beside T (ix2 (n0 := 128) (n1 := 256) r c)
      = col (R := 128) (L := 8) T r ⟨c.val % 8, Nat.mod_lt _ (by decide)⟩ ⟨c.val / 8, by have := c.isLt; omega⟩ := by
  rw [col_apply]
  exact concatenate_ofFn_apply (t := S128x256) (s₁ := S128x8) 1 (fun n : Fin 32 => Tr.leaf 5 T n) _ rfl 8 rfl
    (ix2 (n0 := 128) (n1 := 256) r c) ⟨c.val / 8, by have := c.isLt; omega⟩ rfl
    (ix2 (n0 := 128) (n1 := 8) r ⟨c.val % 8, Nat.mod_lt _ (by decide)⟩) rfl fun b hb' => by
      match b with
      | ⟨0, _⟩ => rfl
      | ⟨1, _⟩ => exact absurd rfl hb'

/-- The candidates of a row: entries of it, and all that have fewer than 32 entries above them. -/
theorem chunkTop_spec (v : Vec Ideal S1x128x8192 .f32) (r : Fin 128) :
    let X : Fin 8192 → EReal := fun c => v (ix3 (n0 := 1) (n1 := 128) (n2 := 8192) 0 r c)
    (∀ j : Fin 32, chunkTop v (ix2 (n0 := 128) (n1 := 32) r j) = ⊥ ∨ ∃ c, X c = chunkTop v (ix2 (n0 := 128) (n1 := 32) r j)) ∧
      ∀ c, Row.above X (X c) < 32 → ∃ j : Fin 32, chunkTop v (ix2 (n0 := 128) (n1 := 32) r j) = X c := by
  intro X
  let w : FVec Ideal S128x8192 .f32 := shapeCast S128x8192 v shapeCasts_S1x128x8192_S128x8192
  have hX : rowOf (R := 128) (C := 8192) w r = X := funext fun c => shapeCast_1ab_ab_apply (a := 128) (b := 8192) v _ r c
  have K := keeps_narrow w r
  rw [hX] at K
  let W : Fin 256 → EReal := rowOf (R := 128) (C := 256) (beside (narrow w)) r
  have hW : ∀ c, W c = col (R := 128) (L := 8) (narrow w) r ⟨c.val % 8, Nat.mod_lt _ (by decide)⟩ ⟨c.val / 8, by have := c.isLt; omega⟩ :=
    fun c => beside_apply (narrow w) r c
  have hj : ∀ j : Fin 32, chunkTop v (ix2 (n0 := 128) (n1 := 32) r j) = Row.top W j.val := fun j =>
    rounds_apply (R := 128) (C := 256) _ _ _ _ (beside (narrow w)) r j
  refine ⟨fun j => ?_, fun c hc => ?_⟩
  · rw [hj]
    refine (Row.top_mem W j.val).imp_right fun ⟨i, hi⟩ => ?_
    obtain ⟨c, hc⟩ := K.from_row ⟨i.val % 8, Nat.mod_lt _ (by decide)⟩ ⟨i.val / 8, by have := i.isLt; omega⟩
    exact ⟨c, by rw [← hi, hW, hc]⟩
  · have H := K.holds c hc
    obtain ⟨l, k, hlk⟩ := H.mem
    have hl := l.isLt
    have hk := k.isLt
    have hi : W ⟨k.val * 8 + l.val, by omega⟩ = X c := by
      rw [hW, ← hlk]
      exact congrArg₂ (col (R := 128) (L := 8) (narrow w) r) (Fin.ext (show (k.val * 8 + l.val) % 8 = l.val by omega))
        (Fin.ext (show (k.val * 8 + l.val) / 8 = k.val by omega))
    have hfew : Row.above W (X c) < 32 := by
      refine lt_of_le_of_lt ?_ H.few
      have eW : W = (fun p : Fin 8 × Fin 32 => col (R := 128) (L := 8) (narrow w) r p.1 p.2)
          ∘ fun c : Fin 256 => (⟨c.val % 8, Nat.mod_lt _ (by decide)⟩, ⟨c.val / 8, by have := c.isLt; omega⟩) := funext hW
      rw [eW]
      refine Row.above_comp_injective _ _ (fun a b hab => Fin.ext ?_) _
      have h1 := congrArg (fun p : Fin 8 × Fin 32 => p.1.val) hab
      have h2 := congrArg (fun p : Fin 8 × Fin 32 => p.2.val) hab
      dsimp only at h1 h2
      omega
    obtain ⟨j, hj1, hj2⟩ := Row.exists_top_eq W (i₀ := ⟨k.val * 8 + l.val, by omega⟩)
    rw [hi] at hj1 hj2
    exact ⟨⟨j, by omega⟩, (hj _).trans hj2⟩

end Cert.TopK
-- ==== Proof.Joined.lean ====
/-
# The results of a row from the two devices' candidates

Two devices hold the two halves of a row and exchange their 32 candidates. The 32 rounds over the 64 entries take the greatest
different values of the whole row, in order, as long as those have fewer than 32 entries above them.
-/
module

public import proofs.«01_k».proof.Proof.Chunk

@[expose] public section

noncomputable section

namespace Cert.TopK

open Cert.KernelIdeal Cert.KernelIdeal.Gen Idealize.ShloMosaic Idealize.ShloMosaic.ValueIdx

/-- `A` holds entries of `Y` (or `⊥`), among them all with fewer than 32 entries above them. -/
def Candidates {N : ℕ} (A : Fin 32 → EReal) (Y : Fin N → EReal) : Prop :=
  (∀ j, A j = ⊥ ∨ ∃ c, Y c = A j) ∧ ∀ c, Row.above Y (Y c) < 32 → ∃ j, A j = Y c

theorem lastTop_apply (a b : Vec Ideal S256x32 .f32) (p : Fin 256) {N M : ℕ} (X : Fin N → EReal) (eA eB : Fin M → Fin N)
    (hA : Function.Injective eA) (hB : Function.Injective eB) (hcov : ∀ c, (∃ k, eA k = c) ∨ ∃ k, eB k = c)
    (ca : Candidates (fun j => a (ix2 (n0 := 256) (n1 := 32) p j)) (X ∘ eA))
    (cb : Candidates (fun j => b (ix2 (n0 := 256) (n1 := 32) p j)) (X ∘ eB)) (j : Fin 32)
    (hX : ∀ i, i ≤ j.val → Row.top X i = ⊥ ∨ ∃ c, X c = Row.top X i ∧ Row.above X (X c) < 32) :
    lastTop a b (ix2 (n0 := 256) (n1 := 32) p j) = Row.top X j.val := by
  let Z : FVec Ideal S256x64 .f32 := concatenate S256x64 1 [⟨S256x32, a⟩, ⟨S256x32, b⟩] concatenates_S256x32_S256x32_S256x64_d1
  have hl : ∀ k : Fin 32, rowOf (R := 256) (C := 64) Z p ⟨k.val, by omega⟩ = a (ix2 (n0 := 256) (n1 := 32) p k) := fun k =>
    concatenate_pair_apply_left (t := S256x64) 1 a b concatenates_S256x32_S256x32_S256x64_d1 _ rfl (ix2 (n0 := 256) (n1 := 32) p k) fun c => by
      match c with
      | ⟨0, _⟩ => rfl
      | ⟨1, _⟩ => rfl
  have hr : ∀ k : Fin 32, rowOf (R := 256) (C := 64) Z p ⟨k.val + 32, by omega⟩ = b (ix2 (n0 := 256) (n1 := 32) p k) := fun k =>
    concatenate_pair_apply_right (t := S256x64) 1 a b concatenates_S256x32_S256x32_S256x64_d1 _ rfl rfl (ix2 (n0 := 256) (n1 := 32) p k) (fun c hc => by
      match c with
      | ⟨0, _⟩ => rfl
      | ⟨1, _⟩ => exact absurd rfl hc) rfl
  refine (rounds_apply (R := 256) (C := 64) _ _ _ _ Z p j).trans
    (Row.top_congr X (rowOf (R := 256) (C := 64) Z p) j.val (fun k => ?_) (fun i hi => ?_) j.val le_rfl)
  · by_cases hk : k.val < 32
    · rw [show k = ⟨(⟨k.val, hk⟩ : Fin 32).val, by omega⟩ from rfl, hl]
      exact (ca.1 ⟨k.val, hk⟩).imp_right fun ⟨c, hc⟩ => ⟨eA c, hc⟩
    · have hk' := k.isLt
      rw [show k = ⟨(⟨k.val - 32, by omega⟩ : Fin 32).val + 32, by omega⟩ from Fin.ext (by show k.val = k.val - 32 + 32; omega), hr]
      exact (cb.1 ⟨k.val - 32, by omega⟩).imp_right fun ⟨c, hc⟩ => ⟨eB c, hc⟩
  · refine (hX i hi).imp_right fun ⟨c, hc, hfew⟩ => ?_
    rw [← hc]
    rcases hcov c with ⟨k, rfl⟩ | ⟨k, rfl⟩
    · obtain ⟨m, hm⟩ := ca.2 k (lt_of_le_of_lt (Row.above_comp_injective X eA hA _) hfew)
      exact ⟨⟨m.val, by omega⟩, (hl m).trans hm⟩
    · obtain ⟨m, hm⟩ := cb.2 k (lt_of_le_of_lt (Row.above_comp_injective X eB hB _) hfew)
      exact ⟨⟨m.val + 32, by omega⟩, (hr m).trans hm⟩

end Cert.TopK
-- ==== Proof.Ref.lean ====
/-
# What the reference computes, row by row

The reference sorts the negated row with its column numbers, keeps the first 32 numbers and reads the row at them. Read on the
extended reals: there is an order of the columns in which the row falls, and result `j` is the row's entry at its `j`-th
column.
-/
module

public import proofs.«01_k».proof.On_distinct_so_far
public import proofs.«01_k».proof.Proof.Rows
public import Idealize.ShloMosaic.Lib.ReduceAll
public import Idealize.ShloMosaic.Lib.SortFacts
public import Idealize.ShloMosaic.Lib.StableHlo.Predicate

@[expose] public section

noncomputable section

namespace Cert.On_distinct_so_far

open Idealize.ShloMosaic

/-- The mask's side conditions. -/
theorem facts : Facts where
  slices_S1024x16384_S1024x32_0_0 := by decide
  bcast_S_S1024x32 := by decide
  shapeCasts_S1024x32_S1024x32x1 := by decide
  bcast_S_S1024x32x1 := by decide
  bcast_S1_S1x1x1_2 := by decide
  bcast_S1x1x1_S1024x32x1_0_1_2 := by decide
  reducesTo_S1024x32x1_S1024x32_d2 := by decide
  h_S_ := by decide
  slices_S1024x32_S1024x31_0_0 := by decide
  slices_S1024x32_S1024x31_0_1 := by decide
  bcast_S31_S1x31_1 := by decide
  bcast_S32_S32x1_0 := by decide
  bcast_S1x31_S32x31_0_1 := by decide
  bcast_S32x1_S32x31_0_1 := by decide
  bcast_S1024x31_S1024x1x31_0_2 := by decide
  bcast_S32x31_S1x32x31_1_2 := by decide
  bcast_S1024x1x31_S1024x32x31_0_1_2 := by decide
  bcast_S1x32x31_S1024x32x31_0_1_2 := by decide
  reducesTo_S1024x32x31_S1024x32_d2 := by decide
  gather_S1024x16384_S1024x32x1_S1024x32_n_1_0_0_1_2_11_wf := by decide

end Cert.On_distinct_so_far

namespace Cert.TopK

open Cert.On_distinct_so_far Idealize.ShloMosaic Idealize.ShloMosaic.ValueIdx
open Idealize.ShloMosaic.StableHlo.Predicate (sge_iff_toNat sle_iff_toNat slt_iff_toNat toInt_eq_toNat_of_lt)

variable [hf : Cert.On_distinct_so_far.Facts]

/-! ## The sort -/

/-- `k` comes strictly before `k'`. -/
def greater {n : ℕ} (X : Fin n → EReal) (k k' : Fin n) : Bool := decide (X k' < X k)

/-- The columns in falling order of their entries, equal ones in order. -/
def order {n : ℕ} (X : Fin n → EReal) : Fin n → Fin n := sortedFrom (greater X)

theorem order_surjective {n : ℕ} (X : Fin n → EReal) : Function.Surjective (order X) := sortedFrom_surjective _

theorem order_falls {n : ℕ} (X : Fin n → EReal) : Antitone (X ∘ order X) := by
  intro i j hij
  rcases eq_or_lt_of_le hij with rfl | hlt
  · exact le_rfl
  · have h := sortedFrom_noInversion (greater X) (greater X) (fun a b h => by
        simp only [greater, decide_eq_true_eq, decide_eq_false_iff_not, not_lt] at h ⊢; exact h.le) (fun _ _ h => h)
      (fun a b c h h' => by
        simp only [greater, decide_eq_false_iff_not, not_lt] at h h' ⊢; exact h.trans h') i j hlt
    simp only [greater, decide_eq_false_iff_not, not_lt] at h
    exact h

theorem comparator_eq (a b : EReal) (u v : BitVec 32) :
    (comparator_f32_i32_d1 (F := Ideal) (-a, u) (-b, v) == 1#1) = decide (b < a) := by
  have hz : ∀ y : EReal, Scalar.select (Ideal.cmp .une y y) (Ideal.ofBits .f32 0x7FC00000#32)
      (Scalar.select (Ideal.cmp .oeq y (Ideal.ofBits .f32 0x00000000#32)) (Ideal.ofBits .f32 0x00000000#32) y) = y := by
    intro y
    have h1 : Ideal.cmp .une y y = 0#1 := by simp [Ideal.cmp]
    rw [h1]
    show (if (0#1 : BitVec 1) = 1#1 then _ else if Ideal.cmp .oeq y (Ideal.ofBits .f32 0x00000000#32) = 1#1 then _ else y) = y
    rw [if_neg (by decide)]
    by_cases h : y = Ideal.ofBits .f32 0x00000000#32
    · rw [← h, ite_self]
    · rw [if_neg]
      show ¬ BitVec.ofBool (decide (y = Ideal.ofBits .f32 0x00000000#32)) = 1#1
      rw [decide_eq_false h]
      decide
  have e : comparator_f32_i32_d1 (F := Ideal) (-a, u) (-b, v) = Ideal.cmp .olt (-a) (-b) :=
    congrArg₂ (Ideal.cmp .olt) (hz (-a)) (hz (-b))
  rw [e]
  by_cases h : b < a <;> simp [Ideal.cmp, h]

/-- The sorted column numbers. -/
def columns (x : FVec Ideal S1024x16384 .f32) : IVec S1024x16384 32 := fn_argsort (F := Ideal) (Host.negf x)

/-- A sort of pairs along the columns, at one row. -/
theorem sort2_row {n m : ℕ} {α β : Type} (cmp : α × β → α × β → BitVec 1) (x : (⟨2, ![n, m]⟩ : Shape).Idx → α)
    (y : (⟨2, ![n, m]⟩ : Shape).Idx → β) (r : Fin n) (k : Fin m) (before : Fin m → Fin m → Bool)
    (hb : ∀ c c', (cmp (x (ix2 r c), y (ix2 r c)) (x (ix2 r c'), y (ix2 r c')) == 1#1) = before c c') :
    (Host.sort2 ⟨2, ![n, m]⟩ 1 cmp x y).2 (ix2 r k) = y (ix2 r (sortedFrom before k)) := by
  have hi : ∀ c : Fin m, (ix2 r k).along 1 c = ix2 r c := fun c => by
    funext a
    match a with
    | ⟨0, _⟩ => rfl
    | ⟨1, _⟩ => rfl
  have e : (fun c c' : Fin m => cmp (x ((ix2 r k).along 1 c), y ((ix2 r k).along 1 c)) (x ((ix2 r k).along 1 c'), y ((ix2 r k).along 1 c')) == 1#1)
      = before := by
    funext c c'
    rw [hi c, hi c']
    exact hb c c'
  show y ((ix2 r k).along 1 (sortedFrom (fun c c' : Fin m => cmp (x ((ix2 r k).along 1 c), y ((ix2 r k).along 1 c))
    (x ((ix2 r k).along 1 c'), y ((ix2 r k).along 1 c')) == 1#1) k)) = _
  exact (congrArg (fun b => y ((ix2 r k).along 1 (sortedFrom b k))) e).trans (congrArg y (hi _))

theorem columns_apply (x : FVec Ideal S1024x16384 .f32) (r : Fin 1024) (k : Fin 16384) :
    columns x (ix2 (n0 := 1024) (n1 := 16384) r k) = BitVec.ofNat 32 (order (rowOf (R := 1024) (C := 16384) x r) k).val :=
  sort2_row (n := 1024) (m := 16384) (comparator_f32_i32_d1 (F := Ideal)) (Host.negf x) (iotaInDim S1024x16384 32 1) r k
    (greater (rowOf (R := 1024) (C := 16384) x r)) fun c c' => comparator_eq (x (ix2 r c)) (x (ix2 r c')) _ _

/-! ## The reading -/

theorem gather_apply (x : FVec Ideal S1024x16384 .f32) (idx : IVec S1024x32x1 32) (r : Fin 1024) (j : Fin 32) (c : Fin 16384)
    (h : idx (ix3 (n0 := 1024) (n1 := 32) (n2 := 1) r j 0) = BitVec.ofNat 32 c.val) :
    Host.gather gather_S1024x16384_S1024x32x1_S1024x32_n_1_0_0_1_2_11 x idx (ix2 (n0 := 1024) (n1 := 32) r j)
      = x (ix2 (n0 := 1024) (n1 := 16384) r c) := by
  refine congrArg x (funext fun a => Fin.ext ?_)
  have hs : ∀ t, gather_S1024x16384_S1024x32x1_S1024x32_n_1_0_0_1_2_11.siIdx (ix2 (n0 := 1024) (n1 := 32) r j) t
      = ix3 (n0 := 1024) (n1 := 32) (n2 := 1) r j 0 := by
    intro t
    funext b
    match b with
    | ⟨0, _⟩ => rfl
    | ⟨1, _⟩ => rfl
    | ⟨2, _⟩ => exact Subsingleton.elim (α := Fin 1) _ _
  let G := gather_S1024x16384_S1024x32x1_S1024x32_n_1_0_0_1_2_11
  have h0 : (0 : Fin 2) ∈ G.operandBatchingDims := List.mem_singleton.mpr rfl
  have h1 : (1 : Fin 2) ∉ G.operandBatchingDims := fun hm =>
    absurd (List.mem_singleton.mp hm) (by decide)
  have hm : (1 : Fin 2) ∈ G.startIndexMap := List.mem_singleton.mpr rfl
  have hk : ∀ a : Fin 2, a ∉ G.sKept := fun a ha => by
    have ha' := (GatherDims.mem_sKept _ _).1 ha
    match a with
    | 0 => exact ha'.2 h0
    | 1 => exact ha'.1 (List.mem_singleton.mpr rfl)
  match a with
  | 0 =>
    show GatherDims.start G (ix2 (n0 := 1024) (n1 := 32) r j) idx 0 + G.batchCoord (ix2 (n0 := 1024) (n1 := 32) r j) 0
      + G.offCoord (ix2 (n0 := 1024) (n1 := 32) r j) 0 = r.val
    rw [GatherDims.start_batching _ _ _ _ h0, GatherDims.offCoord_eq_zero _ _ _ (hk 0), Nat.zero_add, Nat.add_zero]
    rfl
  | 1 =>
    show GatherDims.start G (ix2 (n0 := 1024) (n1 := 32) r j) idx 1 + G.batchCoord (ix2 (n0 := 1024) (n1 := 32) r j) 1
      + G.offCoord (ix2 (n0 := 1024) (n1 := 32) r j) 1 = c.val
    rw [GatherDims.batchCoord_eq_zero _ _ _ h1, GatherDims.offCoord_eq_zero _ _ _ (hk 1), Nat.add_zero]
    unfold GatherDims.start
    rw [dif_pos hm, hs, h, toInt_eq_toNat_of_lt (by rw [BitVec.toNat_ofNat]; have := c.isLt; omega), BitVec.toNat_ofNat]
    show min ((((c.val % 2 ^ 32 : ℕ) : ℤ)).toNat) (16384 - 1) = c.val
    have := c.isLt
    omega

theorem select_of_one {s : Shape} {α : Type} (p : IVec s 1) (a b : s.Idx → α) (i : s.Idx) (h : p i = 1#1) : select p a b i = a i := if_pos h

/-- Reading a row at in-range column numbers. -/
theorem take_apply (x : FVec Ideal S1024x16384 .f32) (idx : IVec S1024x32 32) (col : Fin 1024 → Fin 32 → Fin 16384)
    (h : ∀ r j, idx (ix2 (n0 := 1024) (n1 := 32) r j) = BitVec.ofNat 32 (col r j).val) (r : Fin 1024) (j : Fin 32) :
    fn_take_along_axis (F := Ideal) x idx (ix2 (n0 := 1024) (n1 := 32) r j) = x (ix2 (n0 := 1024) (n1 := 16384) r (col r j)) := by
  let v4 : IVec S1024x32 32 := select (cmpi .slt idx (broadcastInDim S1024x32 ![] Facts.bcast_S_S1024x32 (constantI S_ 32 0#32)))
    (addi idx (broadcastInDim S1024x32 ![] Facts.bcast_S_S1024x32 (constantI S_ 32 16384#32))) idx
  let v5 : IVec S1024x32x1 32 := shapeCast S1024x32x1 v4 Facts.shapeCasts_S1024x32_S1024x32x1
  have hn : ∀ r j, (BitVec.ofNat 32 (col r j).val).toNat = (col r j).val := fun r j => by
    rw [BitVec.toNat_ofNat]; have := (col r j).isLt; omega
  have h4 : ∀ r j, v4 (ix2 (n0 := 1024) (n1 := 32) r j) = BitVec.ofNat 32 (col r j).val := fun r j => by
    show (if IntOp.cmpi .slt (idx (ix2 r j)) 0#32 = 1#1 then IntOp.addi (idx (ix2 r j)) 16384#32 else idx (ix2 r j)) = _
    rw [h r j, if_neg]
    rw [slt_iff_toNat (by rw [hn]; have := (col r j).isLt; omega) (by decide)]
    exact Nat.not_lt_zero _
  have h5 : ∀ r j u, v5 (ix3 (n0 := 1024) (n1 := 32) (n2 := 1) r j u) = BitVec.ofNat 32 (col r j).val := fun r j u =>
    (shapeCast_apply v4 Facts.shapeCasts_S1024x32_S1024x32x1 (ix3 (n0 := 1024) (n1 := 32) (n2 := 1) r j u) (ix2 (n0 := 1024) (n1 := 32) r j) (by
      have hu : u.val = 0 := by omega
      rw [Shape.rowMajor_val_three, Shape.rowMajor_val_two]
      show r.val * 32 + j.val = (r.val * 32 + j.val) * 1 + u.val
      rw [hu, Nat.mul_one, Nat.add_zero])).trans (h4 r j)
  let p : IVec S1024x32x1 1 := andi (cmpi .sge v5 (broadcastInDim S1024x32x1 ![] Facts.bcast_S_S1024x32x1 (constantI S_ 32 0#32)))
    (cmpi .sle v5 (broadcastInDim S1024x32x1 ![0, 1, 2] Facts.bcast_S1x1x1_S1024x32x1_0_1_2
      (broadcastInDim S1x1x1 ![2] Facts.bcast_S1_S1x1x1_2 (constantI S1 32 16383#32))))
  let v12 : IVec S1024x32 1 := Host.reduce IntOp.andi p (constantI S_ 1 1#1) Facts.reducesTo_S1024x32x1_S1024x32_d2 Facts.h_S_
  let v13 : FVec Ideal S1024x32 .f32 := Host.gather gather_S1024x16384_S1024x32x1_S1024x32_n_1_0_0_1_2_11 x v5
  have hp : ∀ r j u, p (ix3 (n0 := 1024) (n1 := 32) (n2 := 1) r j u) = 1#1 := fun r j u => by
    have hlt := (col r j).isLt
    show IntOp.andi (IntOp.cmpi .sge (v5 (ix3 (n0 := 1024) (n1 := 32) (n2 := 1) r j u)) 0#32)
      (IntOp.cmpi .sle (v5 (ix3 (n0 := 1024) (n1 := 32) (n2 := 1) r j u)) 16383#32) = 1#1
    rw [h5, (sge_iff_toNat (by rw [hn]; omega) (by decide)).2 (Nat.zero_le _),
      (sle_iff_toNat (by rw [hn]; omega) (by decide)).2 (by rw [hn]; show _ ≤ 16383; omega)]
    rfl
  have h12 : v12 (ix2 (n0 := 1024) (n1 := 32) r j) = 1#1 := Host.reduce_andi_one _ _ _ _ _ rfl fun i => by
    have e : ix3 (n0 := 1024) (n1 := 32) (n2 := 1) (i 0) (i 1) (i 2) = i := by
      funext a
      match a with
      | ⟨0, _⟩ => rfl
      | ⟨1, _⟩ => rfl
      | ⟨2, _⟩ => rfl
    exact (congrArg p e).symm.trans (hp (i 0) (i 1) (i 2))
  have e : fn_take_along_axis (F := Ideal) x idx = select v12 v13 (broadcastInDim S1024x32 ![] Facts.bcast_S_S1024x32 (constant S_ .f32 0x7FC00000#32)) := rfl
  exact (congrFun e _).trans ((select_of_one v12 v13 _ _ h12).trans (gather_apply x v5 r j (col r j) (h5 r j 0)))

/-- The reference's result. -/
def refTop (x : FVec Ideal S1024x16384 .f32) : FVec Ideal S1024x32 .f32 :=
  fn_take_along_axis (F := Ideal) x (extractStridedSlice S1024x32 ![0, 0] (columns x) Facts.slices_S1024x16384_S1024x32_0_0)

theorem refTop_apply (x : FVec Ideal S1024x16384 .f32) (r : Fin 1024) (j : Fin 32) :
    refTop x (ix2 (n0 := 1024) (n1 := 32) r j)
      = (rowOf (R := 1024) (C := 16384) x r ∘ order (rowOf (R := 1024) (C := 16384) x r)) ⟨j.val, by omega⟩ :=
  take_apply x _ (fun r j => order (rowOf (R := 1024) (C := 16384) x r) ⟨j.val, by omega⟩)
    (fun r j => (slice2_axis1_apply 0 (columns x) Facts.slices_S1024x16384_S1024x32_0_0 r j ⟨j.val, by omega⟩ (Nat.zero_add _).symm).trans
      (columns_apply x r _)) r j

end Cert.TopK
-- ==== Proof.Mask.lean ====
/-
# What the mask says

The mask at result `j` of a row says that up to `j` the reference's results fall strictly, or that result `j` is `⊥`. There the
reference's result is the row's greatest different entry number `j`.
-/
module

public import proofs.«01_k».proof.Proof.Ref

@[expose] public section

noncomputable section

namespace Cert.TopK

open Cert.On_distinct_so_far Idealize.ShloMosaic Idealize.ShloMosaic.ValueIdx
open Idealize.ShloMosaic.StableHlo.Predicate (sge_iff_toNat)

variable [hf : Cert.On_distinct_so_far.Facts]

/-- Where the reference's next result is smaller. -/
def fine (x : FVec Ideal S1024x16384 .f32) : IVec S1024x31 1 :=
  cmpf .ogt (extractStridedSlice S1024x31 ![0, 0] (refTop x) Facts.slices_S1024x32_S1024x31_0_0)
    (extractStridedSlice S1024x31 ![0, 1] (refTop x) Facts.slices_S1024x32_S1024x31_0_1)

/-- The pairs of a place and a result at or before it. -/
def later : IVec S32x31 1 :=
  cmpi .sge (broadcastInDim S32x31 ![0, 1] Facts.bcast_S1x31_S32x31_0_1 (broadcastInDim S1x31 ![1] Facts.bcast_S31_S1x31_1 (iotaInDim S31 32 0)))
    (broadcastInDim S32x31 ![0, 1] Facts.bcast_S32x1_S32x31_0_1 (broadcastInDim S32x1 ![0] Facts.bcast_S32_S32x1_0 (iotaInDim S32 32 0)))

/-- What the mask takes the conjunction of. -/
def marks (x : FVec Ideal S1024x16384 .f32) : IVec S1024x32x31 1 :=
  ori (broadcastInDim S1024x32x31 ![0, 1, 2] Facts.bcast_S1024x1x31_S1024x32x31_0_1_2
      (broadcastInDim S1024x1x31 ![0, 2] Facts.bcast_S1024x31_S1024x1x31_0_2 (fine x)))
    (broadcastInDim S1024x32x31 ![0, 1, 2] Facts.bcast_S1x32x31_S1024x32x31_0_1_2
      (broadcastInDim S1x32x31 ![1, 2] Facts.bcast_S32x31_S1x32x31_1_2 later))

/-- Where the reference's results so far fall strictly. -/
def distinct (x : FVec Ideal S1024x16384 .f32) : IVec S1024x32 1 :=
  Host.reduce IntOp.andi (marks x) (constantI S_ 1 1#1) Facts.reducesTo_S1024x32x31_S1024x32_d2 Facts.h_S_

theorem fn_eq (x : FVec Ideal S1024x16384 .f32) :
    fn (F := Ideal) x = ori (distinct x)
      (cmpf .oeq (refTop x) (broadcastInDim S1024x32 ![] Facts.bcast_S_S1024x32 (constant S_ .f32 0xFF800000#32))) := rfl

theorem marks_apply (x : FVec Ideal S1024x16384 .f32) (r : Fin 1024) (j : Fin 32) (k : Fin 31) :
    marks x (ix3 (n0 := 1024) (n1 := 32) (n2 := 31) r j k)
      = IntOp.ori (fine x (ix2 (n0 := 1024) (n1 := 31) r k)) (later (ix2 (n0 := 32) (n1 := 31) j k)) := by
  refine congrArg₂ IntOp.ori ?_ ?_
  · refine (broadcastInDim_apply _ _ _ _ (ix3 (n0 := 1024) (n1 := 1) (n2 := 31) r 0 k) fun a => ?_).trans
      (broadcastInDim_apply _ _ _ _ (ix2 (n0 := 1024) (n1 := 31) r k) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (ix3 (n0 := 1) (n1 := 32) (n2 := 31) 0 j k) fun a => ?_).trans
      (broadcastInDim_apply _ _ _ _ (ix2 (n0 := 32) (n1 := 31) j k) fun a => ?_)
    · match a with
      | ⟨0, _⟩ => rfl
      | ⟨1, _⟩ => rfl
      | ⟨2, _⟩ => rfl
    · match a with
      | ⟨0, _⟩ => rfl
      | ⟨1, _⟩ => rfl

theorem later_apply (j : Fin 32) (k : Fin 31) (h : k.val < j.val) : later (ix2 (n0 := 32) (n1 := 31) j k) = 0#1 := by
  have e : later (ix2 (n0 := 32) (n1 := 31) j k) = IntOp.cmpi .sge (BitVec.ofNat 32 k.val) (BitVec.ofNat 32 j.val) := rfl
  have hn : ∀ n : ℕ, n < 32 → (BitVec.ofNat 32 n).toNat = n := fun n hn => by rw [BitVec.toNat_ofNat]; omega
  have hk := hn k.val (by omega)
  have hj := hn j.val j.isLt
  have hne : IntOp.cmpi .sge (BitVec.ofNat 32 k.val) (BitVec.ofNat 32 j.val) ≠ 1#1 := by
    rw [Ne, sge_iff_toNat (by omega) (by omega)]
    omega
  rw [e]
  rcases BitVec.eq_zero_or_eq_one (IntOp.cmpi .sge (BitVec.ofNat 32 k.val) (BitVec.ofNat 32 j.val)) with h0 | h1
  · exact h0
  · exact absurd h1 hne

theorem gt_of_one {s : Shape} (A B : FVec Ideal s .f32) (i : s.Idx) (a b : EReal) (hA : A i = a) (hB : B i = b)
    (h : cmpf .ogt A B i = 1#1) : b < a := by
  have h' : BitVec.ofBool (decide (B i < A i)) = 1#1 := h
  rw [hA, hB] at h'
  by_contra hc
  rw [decide_eq_false hc] at h'
  exact absurd h' (by decide)

theorem or_bot_of_one {s : Shape} (D : IVec s 1) (A B : FVec Ideal s .f32) (i : s.Idx) (hB : B i = (⊥ : EReal))
    (h : ori D (cmpf .oeq A B) i = 1#1) : D i = 1#1 ∨ A i = (⊥ : EReal) := by
  have h' : IntOp.ori (D i) (BitVec.ofBool (decide (A i = B i))) = 1#1 := h
  rw [hB] at h'
  by_cases hc : A i = (⊥ : EReal)
  · exact .inr hc
  · rw [decide_eq_false hc] at h'
    refine .inl ?_
    generalize D i = d at h' ⊢
    revert d
    decide

theorem fine_apply (x : FVec Ideal S1024x16384 .f32) (r : Fin 1024) (k : Fin 31) (h : fine x (ix2 (n0 := 1024) (n1 := 31) r k) = 1#1) :
    refTop x (ix2 (n0 := 1024) (n1 := 32) r ⟨k.val + 1, by omega⟩) < refTop x (ix2 (n0 := 1024) (n1 := 32) r ⟨k.val, by omega⟩) :=
  gt_of_one _ _ _ _ _
    (slice2_axis1_apply 0 (refTop x) Facts.slices_S1024x32_S1024x31_0_0 r k ⟨k.val, by omega⟩ (Nat.zero_add _).symm)
    (slice2_axis1_apply 1 (refTop x) Facts.slices_S1024x32_S1024x31_0_1 r k ⟨k.val + 1, by omega⟩ (Nat.add_comm _ _)) h

/-- Where the results so far are distinct they have fallen. -/
theorem falls_of_distinct (x : FVec Ideal S1024x16384 .f32) (r : Fin 1024) (j : Fin 32)
    (h : distinct x (ix2 (n0 := 1024) (n1 := 32) r j) = 1#1) (k : ℕ) (hk : k < j.val) :
    refTop x (ix2 (n0 := 1024) (n1 := 32) r ⟨k + 1, by omega⟩) < refTop x (ix2 (n0 := 1024) (n1 := 32) r ⟨k, by omega⟩) := by
  let k' : Fin 31 := ⟨k, by omega⟩
  have hm := Host.reduce_andi_eq_one (marks x) _ _ _ _ h (ix3 (n0 := 1024) (n1 := 32) (n2 := 31) r j k') (by
    funext b
    match b with
    | ⟨0, _⟩ => exact Fin.ext (Shape.ReducesTo.drop_apply_val _ _ _)
    | ⟨1, _⟩ => exact Fin.ext (Shape.ReducesTo.drop_apply_val _ _ _))
  rw [marks_apply, later_apply j k' hk] at hm
  refine fine_apply x r k' ?_
  generalize fine x (ix2 (n0 := 1024) (n1 := 31) r k') = b at hm ⊢
  revert b
  decide

theorem few_of_place {n : ℕ} (X : Fin n → EReal) (k : Fin n) (h : k.val < 32) : Row.above X (X (order X k)) < 32 :=
  lt_of_le_of_lt (Row.above_of_sorted X (order X) (order_surjective X) (order_falls X) k) h

theorem bot_of_place {n : ℕ} (X : Fin n → EReal) (k : Fin n) (h : X (order X k) = ⊥) : Row.top X k.val = ⊥ :=
  le_bot_iff.mp ((Row.top_le_of_sorted X (order X) (order_surjective X) (order_falls X) k.val k.isLt).trans h.le)

theorem few_of_bot_place {n : ℕ} (X : Fin n → EReal) (k : Fin n) (hk : k.val < 32) (h : X (order X k) = ⊥) (i : ℕ) :
    Row.top X i = ⊥ ∨ ∃ c, X c = Row.top X i ∧ Row.above X (X c) < 32 :=
  (Row.few_of_bot X (order X) (order_surjective X) (order_falls X) k h i).imp_right fun ⟨c, hc, hle⟩ =>
    ⟨c, hc, lt_of_le_of_lt hle hk⟩

/-- Where the mask holds, the reference's result is the row's greatest different entry of that number, and the greatest different
entries up to it (but `⊥`) have fewer than 32 entries above them. -/
theorem top_of_mask (x : FVec Ideal S1024x16384 .f32) (r : Fin 1024) (j : Fin 32)
    (h : fn (F := Ideal) x (ix2 (n0 := 1024) (n1 := 32) r j) = 1#1) :
    Row.top (rowOf (R := 1024) (C := 16384) x r) j.val = refTop x (ix2 (n0 := 1024) (n1 := 32) r j)
      ∧ ∀ i, i ≤ j.val → Row.top (rowOf (R := 1024) (C := 16384) x r) i = ⊥
        ∨ ∃ c, rowOf (R := 1024) (C := 16384) x r c = Row.top (rowOf (R := 1024) (C := 16384) x r) i
          ∧ Row.above (rowOf (R := 1024) (C := 16384) x r) (rowOf (R := 1024) (C := 16384) x r c) < 32 := by
  rw [fn_eq] at h
  have hv := refTop_apply x r j
  rcases or_bot_of_one _ _ _ _ negInf h with h | h
  · have ht : ∀ i, (hi : i ≤ j.val) → Row.top (rowOf (R := 1024) (C := 16384) x r) i
        = rowOf (R := 1024) (C := 16384) x r (order (rowOf (R := 1024) (C := 16384) x r) ⟨i, by omega⟩) := fun i hi =>
      Row.top_of_sorted _ _ (order_surjective _) (order_falls _) i (by omega) fun k hk => by
        have h' := falls_of_distinct x r j h k (by omega)
        rw [refTop_apply, refTop_apply] at h'
        exact h'
    refine ⟨(ht j.val le_rfl).trans hv.symm, fun i hi => .inr ⟨_, (ht i hi).symm, few_of_place _ _ ?_⟩⟩
    exact lt_of_le_of_lt hi j.isLt
  · let k : Fin 16384 := ⟨j.val, by omega⟩
    have hb : rowOf (R := 1024) (C := 16384) x r (order (rowOf (R := 1024) (C := 16384) x r) k) = ⊥ := hv.symm.trans h
    have ht := bot_of_place _ k hb
    exact ⟨ht.trans h.symm, fun i _ => few_of_bot_place _ k j.isLt hb i⟩

end Cert.TopK
-- ==== Proof.Value.lean ====
/-
# The kernel's result where the mask holds

The devices' parts of the argument put together, every device ends with the row's greatest different entries, which where the
mask holds are the reference's results.
-/
module

public import proofs.«01_k».proof.Proof.Joined
public import proofs.«01_k».proof.Proof.Mask
public import proofs.«01_k».proof.Proof.Launched
public import Idealize.ShloMosaic.Lib.Layout
public import Idealize.ShloMosaic.Lib.Pipeline.ValueKit.Geometry

@[expose] public section

noncomputable section

namespace Cert.TopK

open Cert.KernelIdeal Cert.KernelIdeal.Gen Idealize.ShloMosaic.ValueIdx
open Idealize.ShloMosaic hiding ix2 ix3
open Idealize.ShloMosaic.TcCoe

/-! ## A device's part -/

/-- Where a device's column is in the whole row. -/
def column (c : Dev nD) (k : Fin 8192) : Fin 16384 := ⟨8192 * (c.val % 2) + k.val, by have := k.isLt; omega⟩

theorem column_injective (c : Dev nD) : Function.Injective (column c) := fun a b h => Fin.ext (by
  have h' : 8192 * (c.val % 2) + a.val = 8192 * (c.val % 2) + b.val := congrArg Fin.val h
  omega)

theorem column_peer (c : Dev nD) (k : Fin 16384) : (∃ a, column c a = k) ∨ ∃ a, column (peer 0 c) a = k := by
  have hp : (peer 0 c).val % 2 = 1 - c.val % 2 := by revert c; decide
  have hk := k.isLt
  by_cases h : k.val / 8192 = c.val % 2
  · exact .inl ⟨⟨k.val % 8192, Nat.mod_lt _ (by decide)⟩, Fin.ext (by show 8192 * (c.val % 2) + k.val % 8192 = k.val; omega)⟩
  · refine .inr ⟨⟨k.val % 8192, Nat.mod_lt _ (by decide)⟩, Fin.ext ?_⟩
    show 8192 * ((peer 0 c).val % 2) + k.val % 8192 = k.val
    rw [hp]
    omega

/-- The part of an array whose columns are cut in two by the mesh's last axis. -/
theorem part_apply {α : Type} (x : (⟨2, ![1024, 16384]⟩ : Shape).Idx → α) (c : Dev nD) (r : Fin 1024) (k : Fin 8192) :
    Layout.blockN ⟨2, ![1024, 8192]⟩ ⟨2, ![1024, 16384]⟩ (Layout.meshBlock [2, 2, 2] ![[], [2]] c) x (by decide) (ix2 r k) = x (ix2 r (column c k)) := by
  rw [Layout.blockN_apply]
  refine congrArg x (funext fun a => Fin.ext ?_)
  match a with
  | ⟨0, _⟩ =>
    show 0 * 1024 + r.val = r.val
    omega
  | ⟨1, _⟩ =>
    show ((c.val / 1) % 2 * 1 + 0) * 8192 + k.val = 8192 * (c.val % 2) + k.val
    omega

/-! ## The candidates -/

variable (m : (ℓ : Loc nD τ sig) → Buf (Elt Ideal) ℓ)

/-- Row `p` of a device's 256 rows in the whole argument. -/
def place (c : Dev nD) (p : Fin 256) : Fin 1024 := ⟨256 * (c.val / 2) + p.val, by have := p.isLt; have h : c.val < 8 := c.isLt; omega⟩

theorem chunk0_apply (c : Dev nD) (p : Fin 128) (k : Fin 8192) :
    chunk0 m c (ix3 (n0 := 1) (n1 := 128) (n2 := 8192) 0 p k) = xV m c (ix2 (n0 := 1024) (n1 := 8192) (place c ⟨p.val, by omega⟩) k) := by
  have ho : k0_off1 c 0#32 = ![512 * (c.val / 4) + 256 * ((c.val / 2) % 2) + 128 * 0, 0] := k0_off1_eq c ⟨0, by decide⟩
  have h0 : k0_off1 c 0#32 0 = 256 * (c.val / 2) := (congrFun ho 0).trans (by
    show 512 * (c.val / 4) + 256 * ((c.val / 2) % 2) + 128 * 0 = 256 * (c.val / 2); omega)
  refine congrArg (xV m c) (funext fun a => Fin.ext ?_)
  match a with
  | ⟨0, _⟩ =>
    refine (ValueKit.view_emb_slice_whole_unit_val main_arg0 (k0_off1 c 0#32) _ _ _ _).trans ?_
    show k0_off1 c 0#32 0 + p.val = 256 * (c.val / 2) + p.val
    rw [h0]
  | ⟨1, _⟩ =>
    refine (ValueKit.view_emb_slice_whole_unit_val main_arg0 (k0_off1 c 0#32) _ _ _ _).trans ?_
    show k0_off1 c 0#32 1 + k.val = k.val
    rw [ho]
    exact Nat.zero_add _

theorem chunk1_apply (c : Dev nD) (p : Fin 128) (k : Fin 8192) :
    chunk1 m c (ix3 (n0 := 1) (n1 := 128) (n2 := 8192) 0 p k) = xV m c (ix2 (n0 := 1024) (n1 := 8192) (place c ⟨p.val + 128, by omega⟩) k) := by
  have ho : k0_off1 c 128#32 = ![512 * (c.val / 4) + 256 * ((c.val / 2) % 2) + 128 * 1, 0] := k0_off1_eq c ⟨1, by decide⟩
  have h0 : k0_off1 c 128#32 0 = 256 * (c.val / 2) + 128 := (congrFun ho 0).trans (by
    show 512 * (c.val / 4) + 256 * ((c.val / 2) % 2) + 128 * 1 = 256 * (c.val / 2) + 128; omega)
  refine congrArg (xV m c) (funext fun a => Fin.ext ?_)
  match a with
  | ⟨0, _⟩ =>
    refine (ValueKit.view_emb_slice_whole_unit_val main_arg0 (k0_off1 c 128#32) _ _ _ _).trans ?_
    show k0_off1 c 128#32 0 + p.val = 256 * (c.val / 2) + (p.val + 128)
    rw [h0]; omega
  | ⟨1, _⟩ =>
    refine (ValueKit.view_emb_slice_whole_unit_val main_arg0 (k0_off1 c 128#32) _ _ _ _).trans ?_
    show k0_off1 c 128#32 1 + k.val = k.val
    rw [ho]
    exact Nat.zero_add _

theorem chunkOut_candidates (v : Vec Ideal S1x128x8192 .f32) (r : Fin 128) (Y : Fin 8192 → EReal)
    (hY : ∀ k, v (ix3 (n0 := 1) (n1 := 128) (n2 := 8192) 0 r k) = Y k) :
    Candidates (fun j => chunkOut v (ix2 (n0 := 128) (n1 := 32) r j)) Y := by
  obtain rfl : (fun k => v (ix3 (n0 := 1) (n1 := 128) (n2 := 8192) 0 r k)) = Y := funext hY
  rw [show chunkOut v = chunkTop v from shapeCast_self _ _]
  exact chunkTop_spec v r

/-- A device's candidates of a row are its part's. -/
theorem candV_candidates (c : Dev nD) (p : Fin 256) (Y : Fin 8192 → EReal)
    (hY : ∀ k, xV m c (ix2 (n0 := 1024) (n1 := 8192) (place c p) k) = Y k) :
    Candidates (fun j => candV m c (ix2 (n0 := 256) (n1 := 32) p j)) Y := by
  by_cases h : p.val < 128
  · have e : (fun j => candV m c (ix2 (n0 := 256) (n1 := 32) p j)) = fun j => chunkOut (chunk0 m c) (ix2 (n0 := 128) (n1 := 32) ⟨p.val, h⟩ j) :=
      funext fun j => dif_pos h
    rw [e]
    exact chunkOut_candidates _ _ _ fun k => (chunk0_apply m c ⟨p.val, h⟩ k).trans (hY k)
  · have hp := p.isLt
    have e : (fun j => candV m c (ix2 (n0 := 256) (n1 := 32) p j))
        = fun j => chunkOut (chunk1 m c) (ix2 (n0 := 128) (n1 := 32) ⟨p.val - 128, by omega⟩ j) := funext fun j => dif_neg h
    rw [e]
    refine chunkOut_candidates _ _ _ fun k => (chunk1_apply m c ⟨p.val - 128, by omega⟩ k).trans ?_
    rw [show (⟨p.val - 128 + 128, by omega⟩ : Fin 256) = p from Fin.ext (by show p.val - 128 + 128 = p.val; omega)]
    exact hY k

/-! ## The result -/

variable [hf : Cert.On_distinct_so_far.Facts]

theorem outV_of_mask (x : FVec Ideal ⟨2, ![1024, 16384]⟩ .f32)
    (hx : ∀ c : Dev nD, xV m c = Layout.blockN ⟨2, ![1024, 8192]⟩ ⟨2, ![1024, 16384]⟩ (Layout.meshBlock [2, 2, 2] ![[], [2]] c) x)
    (c : Dev nD) (r : Fin 1024) (j : Fin 32) (hmask : Cert.On_distinct_so_far.fn (F := Ideal) x (ix2 (n0 := 1024) (n1 := 32) r j) = 1#1) :
    outV m c (ix2 (n0 := 1024) (n1 := 32) r j) = refTop x (ix2 (n0 := 1024) (n1 := 32) r j) := by
  have hr := r.isLt
  let q : Dev nD := quad c ⟨r.val / 256, by omega⟩
  let p : Fin 256 := ⟨r.val % 256, Nat.mod_lt _ (by decide)⟩
  let X : Fin 16384 → EReal := rowOf (R := 1024) (C := 16384) x r
  have hq : q.val / 2 = r.val / 256 := by show (2 * (r.val / 256) + c.val % 2) / 2 = r.val / 256; omega
  have hq' : (peer 0 q).val / 2 = r.val / 256 := (by decide : ∀ q : Dev nD, (peer 0 q).val / 2 = q.val / 2) q ▸ hq
  have hY : ∀ d : Dev nD, d.val / 2 = r.val / 256 → ∀ k, xV m d (ix2 (n0 := 1024) (n1 := 8192) (place d p) k) = (X ∘ column d) k := by
    intro d hd k
    have hpl : place d p = r := Fin.ext (by show 256 * (d.val / 2) + r.val % 256 = r.val; omega)
    rw [hx d, hpl]
    exact part_apply x d r k
  refine (lastTop_apply (candV m q) (candV m (peer 0 q)) p X (column q) (column (peer 0 q)) (column_injective _) (column_injective _)
    (column_peer q) (candV_candidates m q p _ (hY q hq)) (candV_candidates m (peer 0 q) p _ (hY _ hq')) j
    (top_of_mask x r j hmask).2).trans (top_of_mask x r j hmask).1

end Cert.TopK
-- ==== Proof.lean ====
/-
# The claims

The kernel's frame holds at any float values (`Cert.TopK.run_kernel`), so at the extended reals and at the bit patterns alike. On
the extended reals its result is the reference's wherever the mask holds (`Cert.TopK.outV_of_mask`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launched
public import proofs.«01_k».proof.Proof.Value

@[expose] public section

noncomputable section

namespace Cert.Proof

open Idealize.ShloMosaic Idealize.SL.Sem

set_option maxRecDepth 65536 in
set_option maxHeartbeats 4000000 in
/-- The kernel and its idealisation are one text. -/
theorem defs_eq : Cert.Kernel.defs (F := Bits) = Cert.KernelIdeal.defs (F := Bits) := by chain_rfl

theorem main_eq : Cert.Kernel.main (F := Bits) = Cert.KernelIdeal.main (F := Bits) := rfl

theorem frame_kernel : Cert.quiescent_Kernel := fun m ρ _ => by
  rw [defs_eq, main_eq]
  exact (θ_run Cert.KernelIdeal.defs _ _).mono (fun _ h => ⟨fun c => (h.1 c).2, h.2⟩) (Cert.TopK.run_kernel (F := Bits) m ρ)

theorem frame_ideal : Cert.quiescent_KernelIdeal := fun m ρ _ =>
  (θ_run Cert.KernelIdeal.defs _ _).mono (fun _ h => ⟨fun c => (h.1 c).2, h.2⟩) (Cert.TopK.run_kernel (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The comparisons the reference and the mask sort by are one. -/
theorem comparator_eq : Cert.ReferenceIdeal.comparator_f32_i32_d1 (F := Ideal) = Cert.On_distinct_so_far.comparator_f32_i32_d1 := rfl

theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v3)
          = Cert.TopK.refTop (hf := Cert.On_distinct_so_far.facts)
              (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h c => ⟨(h c).1.trans (by rw [comparator_eq]; rfl), (h c).2⟩)
    (Cert.ReferenceIdeal.Value.run (F := Ideal) m ρ)

theorem value : Cert.algebraic_KernelIdeal_ReferenceIdeal_on_distinct_so_far (hOn_distinct_so_far := Cert.On_distinct_so_far.facts) := by
  intro m g m' g' _ hm
  refine ⟨Cert.TopK.refTop (hf := Cert.On_distinct_so_far.facts)
      (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨fun i hi => ?_, (h.1 c).2⟩) (Cert.TopK.run_kernel (F := Ideal) m g)
    have e : i = ValueIdx.ix2 (n0 := 1024) (n1 := 32) (i 0) (i 1) := by
      funext a
      match a with
      | ⟨0, _⟩ => rfl
      | ⟨1, _⟩ => rfl
    rw [(h.1 c).1]
    rw [e] at hi ⊢
    exact Cert.TopK.outV_of_mask (hf := Cert.On_distinct_so_far.facts) m _ hm c (i 0) (i 1) hi
  · exact (θ_run Cert.ReferenceIdeal.defs _ _).mono (fun r h => ⟨fun i _ => congrFun (h 0).1 i, (h 0).2⟩) (run_reference m' g')

theorem claim : Cert.Claim :=
  ⟨Cert.Kernel.Gen.facts, Cert.KernelIdeal.Gen.facts, Cert.ReferenceIdeal.Gen.facts, Cert.On_distinct_so_far.facts,
    frame_kernel, frame_ideal, frame_reference, trivial, value⟩

end Cert.Proof

end
